-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_w2_finite [hPre_w2_finite : Cert.Pre_w2_finite.Facts] (m : (ℓ : Loc Cert.KernelIdeal.nD Cert.KernelIdeal.τ Cert.KernelIdeal.sig) → Buf (Elt Ideal) ℓ) : Prop :=
  ∀ c : Dev Cert.KernelIdeal.nD,
    (Cert.Pre_w2_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_w2_finite [hPre_w2_finite : Cert.Pre_w2_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_w2_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_w2_finite [hKernelIdeal : Cert.KernelIdeal.Facts] [hPre_w2_finite : Cert.Pre_w2_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_w2_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_w2_finite [hReferenceIdeal : Cert.ReferenceIdeal.Facts] [hPre_w2_finite : Cert.Pre_w2_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_w2_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_w2_finite [hKernelIdeal : Cert.KernelIdeal.Facts] [hReferenceIdeal : Cert.ReferenceIdeal.Facts] [hPre_w2_finite : Cert.Pre_w2_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_w2_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_w2_finite : Cert.Pre_w2_finite.Facts),
    quiescent_Kernel (hKernel := hKernel)
    ∧ quiescent_KernelIdeal (hKernelIdeal := hKernelIdeal)
    ∧ quiescent_KernelIdeal_pre_w2_finite (hKernelIdeal := hKernelIdeal) (hPre_w2_finite := hPre_w2_finite)
    ∧ quiescent_ReferenceIdeal (hReferenceIdeal := hReferenceIdeal)
    ∧ quiescent_ReferenceIdeal_pre_w2_finite (hReferenceIdeal := hReferenceIdeal) (hPre_w2_finite := hPre_w2_finite)
    ∧ preserves_Kernel_KernelIdeal
    ∧ algebraic_KernelIdeal_ReferenceIdeal_pre_w2_finite (hKernelIdeal := hKernelIdeal) (hReferenceIdeal := hReferenceIdeal) (hPre_w2_finite := hPre_w2_finite)
-- ==== Pre_w2_finite.lean ====
abbrev S64x4096x256 : Shape := ⟨3, ![64, 4096, 256]⟩
abbrev S4x256x64 : Shape := ⟨3, ![4, 256, 64]⟩
abbrev S4x64 : Shape := ⟨2, ![4, 64]⟩
abbrev S256x1024 : Shape := ⟨2, ![256, 1024]⟩
abbrev S256 : Shape := ⟨1, ![256]⟩
abbrev S_ : Shape := ⟨0, ![]⟩

class Facts : Prop where
  bcast_S_S4x64 : S_.BroadcastsInDim S4x64 (![] : Fin 0 → Fin S4x64.rank)

variable [Facts]

def fn {F : FTy → Type} [FloatOps F] (main_arg0 : FVec F S64x4096x256 .f32) (main_arg1 : FVec F S4x256x64 .f32) (main_arg2 : FVec F S4x64 .f32) (main_arg3 : FVec F S4x64 .f32) (main_arg4 : FVec F S256x1024 .f32) (main_arg5 : FVec F S256 .f32) (main_arg6 : FVec F S256 .f32) (main_arg7 : FVec F S256 .f32) : IVec S4x64 1 :=
  let main_v0 : FVec F S4x64 .f32 := Host.absf main_arg3
  let main_cst : FVec F S_ .f32 := constant S_ .f32 0x7F800000#32
  let main_v1 : FVec F S4x64 .f32 := broadcastInDim S4x64 ![] bcast_S_S4x64 main_cst
  let main_v2 : IVec S4x64 1 := cmpf .olt main_v0 main_v1
  main_v2
-- ==== Kernel.lean ====
abbrev S64x4096x256 : Shape := ⟨3, ![64, 4096, 256]⟩
abbrev S4x256x64 : Shape := ⟨3, ![4, 256, 64]⟩
abbrev S4x64 : Shape := ⟨2, ![4, 64]⟩
abbrev S256x1024 : Shape := ⟨2, ![256, 1024]⟩
abbrev S256 : Shape := ⟨1, ![256]⟩
abbrev S256x4x64 : Shape := ⟨3, ![256, 4, 64]⟩
abbrev S256x256 : Shape := ⟨2, ![256, 256]⟩
abbrev S1x256 : Shape := ⟨2, ![1, 256]⟩
abbrev S4x4 : Shape := ⟨2, ![4, 4]⟩
abbrev S_ : Shape := ⟨0, ![]⟩
abbrev S4x4x1 : Shape := ⟨3, ![4, 4, 1]⟩
abbrev S1x4x64 : Shape := ⟨3, ![1, 4, 64]⟩
abbrev S4x4x64 : Shape := ⟨3, ![4, 4, 64]⟩
abbrev S4x256 : Shape := ⟨2, ![4, 256]⟩
abbrev S256x4x256 : Shape := ⟨3, ![256, 4, 256]⟩
abbrev S4x256x256 : Shape := ⟨3, ![4, 256, 256]⟩
abbrev S32x2x4x1024x256 : Shape := ⟨5, ![32, 2, 4, 1024, 256]⟩
abbrev S64x1x256 : Shape := ⟨3, ![64, 1, 256]⟩
abbrev S64x4x4096 : Shape := ⟨3, ![64, 4, 4096]⟩
abbrev S1x2x1x1024x256 : Shape := ⟨5, ![1, 2, 1, 1024, 256]⟩
abbrev S2x4x4096 : Shape := ⟨3, ![2, 4, 4096]⟩
abbrev S2x4x256 : Shape := ⟨3, ![2, 4, 256]⟩
abbrev S1x4x256 : Shape := ⟨3, ![1, 4, 256]⟩
abbrev S1x256x256 : Shape := ⟨3, ![1, 256, 256]⟩
abbrev S1 : Shape := ⟨1, ![1]⟩
abbrev S1x1 : Shape := ⟨2, ![1, 1]⟩
abbrev S1x1x256 : Shape := ⟨3, ![1, 1, 256]⟩
abbrev S4 : Shape := ⟨1, ![4]⟩
abbrev S4x1 : Shape := ⟨2, ![4, 1]⟩
abbrev S1x1x1x1024x256 : Shape := ⟨5, ![1, 1, 1, 1024, 256]⟩
abbrev S1024x256 : Shape := ⟨2, ![1024, 256]⟩
abbrev S4x1024 : Shape := ⟨2, ![4, 1024]⟩
abbrev S4x4096 : Shape := ⟨2, ![4, 4096]⟩
abbrev S1x4x4096 : Shape := ⟨3, ![1, 4, 4096]⟩

abbrev nBuf : Space → Nat
  | .hbm => 32
  | .vmem => 19
  | .smem => 0
  | _ => 0

abbrev bufTy : (tb : Table) → Fin (tcTables nBuf tb) → BufTy
  | .hbm, ⟨0, _⟩ => ⟨S64x4096x256, .f32⟩
  | .hbm, ⟨1, _⟩ => ⟨S4x256x64, .f32⟩
  | .hbm, ⟨2, _⟩ => ⟨S4x64, .f32⟩
  | .hbm, ⟨3, _⟩ => ⟨S4x64, .f32⟩
  | .hbm, ⟨4, _⟩ => ⟨S256x1024, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x4x64, .f32⟩
  | .hbm, ⟨9, _⟩ => ⟨S256x256, .f32⟩
  | .hbm, ⟨10, _⟩ => ⟨S1x256, .f32⟩
  | .hbm, ⟨11, _⟩ => ⟨S4x4, .i32⟩
  | .hbm, ⟨12, _⟩ => ⟨S4x4, .i32⟩
  | .hbm, ⟨13, _⟩ => ⟨S_, .i32⟩
  | .hbm, ⟨14, _⟩ => ⟨S4x4, .i32⟩
  | .hbm, ⟨15, _⟩ => ⟨S4x4, .i32⟩
  | .hbm, ⟨16, _⟩ => ⟨S4x4, .i1⟩
  | .hbm, ⟨17, _⟩ => ⟨S4x4, .f32⟩
  | .hbm, ⟨18, _⟩ => ⟨S4x4x1, .f32⟩
  | .hbm, ⟨19, _⟩ => ⟨S1x4x64, .f32⟩
  | .hbm, ⟨20, _⟩ => ⟨S4x4x64, .f32⟩
  | .hbm, ⟨21, _⟩ => ⟨S4x4x64, .f32⟩
  | .hbm, ⟨22, _⟩ => ⟨S4x4x64, .f32⟩
  | .hbm, ⟨23, _⟩ => ⟨S4x256, .f32⟩
  | .hbm, ⟨24, _⟩ => ⟨S256x4x256, .f32⟩
  | .hbm, ⟨25, _⟩ => ⟨S4x256x256, .f32⟩
  | .hbm, ⟨26, _⟩ => ⟨S32x2x4x1024x256, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S64x1x256, .f32⟩
  | .hbm, ⟨31, _⟩ => ⟨S64x4x4096, .f32⟩
  | .local _ .vmem, ⟨0, _⟩ => ⟨S1x2x1x1024x256, .f32⟩
  | .local _ .vmem, ⟨1, _⟩ => ⟨S1x2x1x1024x256, .f32⟩
  | .local _ .vmem, ⟨2, _⟩ => ⟨S1x2x1x1024x256, .f32⟩
  | .local _ .vmem, ⟨3, _⟩ => ⟨S1x2x1x1024x256, .f32⟩
  | .local _ .vmem, ⟨4, _⟩ => ⟨S1x2x1x1024x256, .f32⟩
  | .local _ .vmem, ⟨5, _⟩ => ⟨S1x2x1x1024x256, .f32⟩
  | .local _ .vmem, ⟨6, _⟩ => ⟨S1x2x1x1024x256, .f32⟩
  | .local _ .vmem, ⟨7, _⟩ => ⟨S1x2x1x1024x256, .f32⟩
  | .local _ .vmem, ⟨8, _⟩ => ⟨S256x256, .f32⟩
  | .local _ .vmem, ⟨9, _⟩ => ⟨S1x256, .f32⟩
  | .local _ .vmem, ⟨10, _⟩ => ⟨S4x256, .f32⟩
  | .local _ .vmem, ⟨11, _⟩ => ⟨S4x256x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S64x1x256, .f32⟩
  | .local _ .vmem, ⟨16, _⟩ => ⟨S2x4x4096, .f32⟩
  | .local _ .vmem, ⟨17, _⟩ => ⟨S2x4x4096, .f32⟩
  | .local _ .vmem, ⟨18, _⟩ => ⟨S2x4x256, .f32⟩
  | _, _ => ⟨S64x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![33], ![false]⟩

def k0_off1 (i : grid0.Coords) (c0_i32_25 : BitVec 32) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v49 : BitVec 32 := Scalar.muli v1 c2_i32
  let v50 : BitVec 32 := Scalar.addi v49 c0_i32_25
  let v51 : Index := Scalar.indexCast v50
  let c0_26 : Index := 0#32
  let c0_27 : Index := 0#32
  ![v51.toNat, 0, 0]
def cc0_transform_0 (i : grid0.Coords) : Fin 5 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  let c0_i32_2 : BitVec 32 := 0#32
  let c0_i32_3 : BitVec 32 := 0#32
  ![v0.toNat, c0_i32.toNat, c0_i32_0.toNat, c0_i32_1.toNat, c0_i32_2.toNat]

def cc0_transform_1 (i : grid0.Coords) : Fin 5 → Nat :=
  let arg0 : BitVec 32 := BitVec.ofNat 32 (i 0).val
  let c31_i32 : BitVec 32 := 31#32
  let v0 : BitVec 32 := Scalar.minsi arg0 c31_i32
  let c0_i32 : BitVec 32 := 0#32
  let c1_i32 : BitVec 32 := 1#32
  let c0_i32_0 : BitVec 32 := 0#32
  let c0_i32_1 : BitVec 32 := 0#32
  let c0_i32_2 : BitVec 32 := 0#32
  ![v0.toNat, c0_i32.toNat, c1_i32.toNat, c0_i32_0.toNat, c0_i32_1.toNat]

def cc0_transform_2 (i : grid0.Coords) : Fin 5 → Nat :=
  let arg0 : BitVec 32 := BitVec.ofNat 32 (i 0).val
  let c31_i32 : BitVec 32 := 31#32
  let v0 : BitVec 32 := Scalar.minsi arg0 c31_i32
  let c0_i32 : BitVec 32 := 0#32
  let c2_i32 : BitVec 32 := 2#32
  let c0_i32_0 : BitVec 32 := 0#32
  let c0_i32_1 : BitVec 32 := 0#32
  let c0_i32_2 : BitVec 32 := 0#32
  ![v0.toNat, c0_i32.toNat, c2_i32.toNat, c0_i32_0.toNat, c0_i32_1.toNat]

def cc0_transform_3 (i : grid0.Coords) : Fin 5 → Nat :=
  let arg0 : BitVec 32 := BitVec.ofNat 32 (i 0).val
  let c31_i32 : BitVec 32 := 31#32
  let v0 : BitVec 32 := Scalar.minsi arg0 c31_i32
  let c0_i32 : BitVec 32 := 0#32
  let c3_i32 : BitVec 32 := 3#32
  let c0_i32_0 : BitVec 32 := 0#32
  let c0_i32_1 : BitVec 32 := 0#32
  let c0_i32_2 : BitVec 32 := 0#32
  ![v0.toNat, c0_i32.toNat, c3_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S1x2x1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2x4x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S64x4096x256 : Shape := ⟨3, ![64, 4096, 256]⟩
abbrev S4x256x64 : Shape := ⟨3, ![4, 256, 64]⟩
abbrev S4x64 : Shape := ⟨2, ![4, 64]⟩
abbrev S256x1024 : Shape := ⟨2, ![256, 1024]⟩
abbrev S256 : Shape := ⟨1, ![256]⟩
abbrev S4x64x64x4096 : Shape := ⟨4, ![4, 64, 64, 4096]⟩
abbrev S64x4x4096x64 : Shape := ⟨4, ![64, 4, 4096, 64]⟩
abbrev S1x4x1x64 : Shape := ⟨4, ![1, 4, 1, 64]⟩
abbrev S4x64x4096 : Shape := ⟨3, ![4, 64, 4096]⟩
abbrev S64x4x4096 : Shape := ⟨3, ![64, 4, 4096]⟩
abbrev S_ : Shape := ⟨0, ![]⟩
abbrev S64x4 : Shape := ⟨2, ![64, 4]⟩
abbrev S64x4x1 : Shape := ⟨3, ![64, 4, 1]⟩
abbrev S64x4x256 : Shape := ⟨3, ![64, 4, 256]⟩
abbrev S64x1024 : Shape := ⟨2, ![64, 1024]⟩
abbrev S1024x256 : Shape := ⟨2, ![1024, 256]⟩
abbrev S64x256 : Shape := ⟨2, ![64, 256]⟩
abbrev S1x256 : Shape := ⟨2, ![1, 256]⟩
abbrev S64 : Shape := ⟨1, ![64]⟩
abbrev S64x1 : Shape := ⟨2, ![64, 1]⟩
abbrev S64x1x256 : Shape := ⟨3, ![64, 1, 256]⟩

abbrev nBuf : Space → Nat
  | .hbm => 67
  | .vmem => 0
  | .smem => 0
  | _ => 0

abbrev bufTy : (tb : Table) → Fin (tcTables nBuf tb) → BufTy
  | .hbm, ⟨0, _⟩ => ⟨S64x4096x256, .f32⟩
  | .hbm, ⟨1, _⟩ => ⟨S4x256x64, .f32⟩
  | .hbm, ⟨2, _⟩ => ⟨S4x64, .f32⟩
  | .hbm, ⟨3, _⟩ => ⟨S4x64, .f32⟩
  | .hbm, ⟨4, _⟩ => ⟨S256x1024, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S4x64x64x4096, .f32⟩
  | .hbm, ⟨9, _⟩ => ⟨S64x4x4096x64, .f32⟩
  | .hbm, ⟨10, _⟩ => ⟨S1x4x1x64, .f32⟩
  | .hbm, ⟨11, _⟩ => ⟨S64x4x4096x64, .f32⟩
  | .hbm, ⟨12, _⟩ => ⟨S64x4x4096x64, .f32⟩
  | .hbm, ⟨13, _⟩ => ⟨S64x4x4096x64, .f32⟩
  | .hbm, ⟨14, _⟩ => ⟨S4x64x4096, .f32⟩
  | .hbm, ⟨15, _⟩ => ⟨S64x4x4096, .f32⟩
  | .hbm, ⟨16, _⟩ => ⟨S_, .f32⟩
  | .hbm, ⟨17, _⟩ => ⟨S64x4, .f32⟩
  | .hbm, ⟨18, _⟩ => ⟨S_, .f32⟩
  | .hbm, ⟨19, _⟩ => ⟨S64x4, .f32⟩
  | .hbm, ⟨20, _⟩ => ⟨S64x4, .f32⟩
  | .hbm, ⟨21, _⟩ => ⟨S64x4x1, .f32⟩
  | .hbm, ⟨22, _⟩ => ⟨S64x4x4096, .f32⟩
  | .hbm, ⟨23, _⟩ => ⟨S64x4x4096, .f32⟩
  | .hbm, ⟨24, _⟩ => ⟨S64x4x4096, .f32⟩
  | .hbm, ⟨25, _⟩ => ⟨S_, .f32⟩
  | .hbm, ⟨26, _⟩ => ⟨S64x4, .f32⟩
  | .hbm, ⟨27, _⟩ => ⟨S64x4x1, .f32⟩
  | .hbm, ⟨28, _⟩ => ⟨S64x4x4096, .f32⟩
  | .hbm, ⟨29, _⟩ => ⟨S64x4x4096, .f32⟩
  | .hbm, ⟨30, _⟩ => ⟨S64x4x256, .f32⟩
  | .hbm, ⟨31, _⟩ => ⟨S64x1024, .f32⟩
  | .hbm, ⟨32, _⟩ => ⟨S1024x256, .f32⟩
  | .hbm, ⟨33, _⟩ => ⟨S64x256, .f32⟩
  | .hbm, ⟨34, _⟩ => ⟨S1x256, .f32⟩
  | .hbm, ⟨35, _⟩ => ⟨S64x256, .f32⟩
  | .hbm, ⟨36, _⟩ => ⟨S64x256, .f32⟩
  | .hbm, ⟨37, _⟩ => ⟨S_, .f32⟩
  | .hbm, ⟨38, _⟩ => ⟨S64, .f32⟩
  | .hbm, ⟨39, _⟩ => ⟨S64x1, .f32⟩
  | .hbm, ⟨40, _⟩ => ⟨S_, .f32⟩
  | .hbm, ⟨41, _⟩ => ⟨S64x1, .f32⟩
  | .hbm, ⟨42, _⟩ => ⟨S64x1, .f32⟩
  | .hbm, ⟨43, _⟩ => ⟨S64x256, .f32⟩
  | .hbm, ⟨44, _⟩ => ⟨S64x256, .f32⟩
  | .hbm, ⟨45, _⟩ => ⟨S64x256, .f32⟩
  | .hbm, ⟨46, _⟩ => ⟨S_, .f32⟩
  | .hbm, ⟨47, _⟩ => ⟨S64, .f32⟩
  | .hbm, ⟨48, _⟩ => ⟨S64x1, .f32⟩
  | .hbm, ⟨49, _⟩ => ⟨S_, .f32⟩
  | .hbm, ⟨50, _⟩ => ⟨S64x1, .f32⟩
  | .hbm, ⟨51, _⟩ => ⟨S64x1, .f32⟩
  | .hbm, ⟨52, _⟩ => ⟨S64x256, .f32⟩
  | .hbm, ⟨53, _⟩ => ⟨S64x256, .f32⟩
  | .hbm, ⟨54, _⟩ => ⟨S_, .f32⟩
  | .hbm, ⟨55, _⟩ => ⟨S64x1, .f32⟩
  | .hbm, ⟨56, _⟩ => ⟨S64x1, .f32⟩
  | .hbm, ⟨57, _⟩ => ⟨S64x1, .f32⟩
  | .hbm, ⟨58, _⟩ => ⟨S64x256, .f32⟩
  | .hbm, ⟨59, _⟩ => ⟨S64x256, .f32⟩
  | .hbm, ⟨60, _⟩ => ⟨S1x256, .f32⟩
  | .hbm, ⟨61, _⟩ => ⟨S64x256, .f32⟩
  | .hbm, ⟨62, _⟩ => ⟨S64x256, .f32⟩
  | .hbm, ⟨63, _⟩ => ⟨S1x256, .f32⟩
  | .hbm, ⟨64, _⟩ => ⟨S64x256, .f32⟩
  | .hbm, ⟨65, _⟩ => ⟨S64x256, .f32⟩
  | .hbm, ⟨66, _⟩ => ⟨S64x1x256, .f32⟩
  | _, _ => ⟨S64x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Proof.Kernel.Ends.lean ====
module

public import proofs.«01_k».proof.Proof.Gen.Kernel.Frame
public import proofs.«01_k».proof.Proof.Gen.Kernel.Skeleton
public import Idealize.ShloMosaic.Lib.Tactic
public import Idealize.ShloMosaic.Lib.Pipeline.DatRel

@[expose] public section

noncomputable section

namespace Cert.Kernel.Ends

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationRel)

variable {F : FTy → Type} [FloatOps F]

local notation "𝕄" => MT nD τ sig Unit (Elt F) ℕ (UR sig nD τ) ℕ

/-- One point of the kernel returns: the inputs keep their contents, and what the others hold is left open. -/
theorem run (c : Dev nD) (i : grid0.Coords) (arg1 : Memref sig .tc .vmem S1x2x1x1024x256 .f32) (harg1 : arg1.IsWhole) (arg2 : Memref sig .tc .vmem S1x2x1x1024x256 .f32) (harg2 : arg2.IsWhole) (arg3 : Memref sig .tc .vmem S1x2x1x1024x256 .f32) (harg3 : arg3.IsWhole) (arg4 : Memref sig .tc .vmem S1x2x1x1024x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S4x256 .f32) (harg7 : arg7.IsWhole) (arg8 : Memref sig .tc .vmem S4x256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S64x1x256 .f32) (harg12 : arg12.IsWhole) (arg13 : Memref sig .tc .vmem S2x4x4096 .f32) (harg13 : arg13.IsWhole) (arg14 : Memref sig .tc .vmem S2x4x256 .f32) (harg14 : arg14.IsWhole)
    (x1 x2 x3 x4 : S1x2x1x1024x256.Idx → Elt F .f32) (x5 : S256x256.Idx → Elt F .f32) (x6 : S1x256.Idx → Elt F .f32) (x7 : S4x256.Idx → Elt F .f32)
    (x8 : S4x256x256.Idx → Elt F .f32) (x9 x10 x11 : S1x256.Idx → Elt F .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ owns (c : Thread nD τ) arg10 fullShare x10 ∗ owns (c : Thread nD τ) arg11 fullShare x11 ∗ (∃ d, owns (c : Thread nD τ) arg12 fullShare d)
        ∗ (∃ d, owns (c : Thread nD τ) arg13 fullShare d) ∗ (∃ d, owns (c : Thread nD τ) arg14 fullShare d)
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ owns (c : Thread nD τ) arg10 fullShare x10 ∗ owns (c : Thread nD τ) arg11 fullShare x11 ∗ (∃ d, owns (c : Thread nD τ) arg12 fullShare d)
        ∗ (∃ d, owns (c : Thread nD τ) arg13 fullShare d) ∗ (∃ d, owns (c : Thread nD τ) arg14 fullShare d)) -∗ K ⟨⟩))
      ⊢ wp frame (wpE (defs₀ (F := F)) Variants.none c none) Set.univ
          (cc0__body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, Hk⟩
  sl_exec
  sl_step
  iapply Hk
  isplitl [H1]
  · iexists f1; isplitr [H1]
    · ipureintro; exact hf1
    · iexact H1
  isplitl [H2]
  · iexists f2; isplitr [H2]
    · ipureintro; exact hf2
    · iexact H2
  isplitl [H3]
  · iexists f3; isplitr [H3]
    · ipureintro; exact hf3
    · iexact H3
  isplitl [H4]
  · iexists f4; isplitr [H4]
    · ipureintro; exact hf4
    · iexact H4
  isplitl [H5]
  · iexists f5; isplitr [H5]
    · ipureintro; exact hf5
    · iexact H5
  isplitl [H6]
  · iexists f6; isplitr [H6]
    · ipureintro; exact hf6
    · iexact H6
  isplitl [H7]
  · iexists f7; isplitr [H7]
    · ipureintro; exact hf7
    · iexact H7
  isplitl [H8]
  · iexists f8; isplitr [H8]
    · ipureintro; exact hf8
    · iexact H8
  isplitl [H9]
  · iexists f9; isplitr [H9]
    · ipureintro; exact hf9
    · iexact H9
  isplitl [H10]
  · iexists f10; isplitr [H10]
    · ipureintro; exact hf10
    · iexact H10
  isplitl [H11]
  · iexists f11; isplitr [H11]
    · ipureintro; exact hf11
    · iexact H11
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

variable (m : (ℓ : Loc nD τ sig) → Buf (Elt F) ℓ) (ρ : Dev nD → PrngReg)

/-- What the body leaves in each input window: the block it found. -/
def leaves (c : Dev nD) (t : Fin cfg0.N) : (w : Fin cfg0.W) → (cfg0.win w).block.Idx → Elt F (cfg0.win w).elt
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => iblk m c 5 t
  | ⟨6, _⟩ => iblk m c 6 t
  | ⟨7, _⟩ => iblk m c 7 t
  | ⟨8, _⟩ => iblk m c 8 t
  | ⟨9, _⟩ => iblk m c 9 t
  | ⟨10, _⟩ => iblk m c 10 t
  | ⟨11, _⟩ => Pipeline.Dat.unnamed (cfg := cfg0) 11 t
  | ⟨12, _⟩ => Pipeline.Dat.unnamed (cfg := cfg0) 12 t

/-- The two output windows, of which nothing is said. -/
def marked (w : Fin cfg0.W) : Bool := decide (11 ≤ w)

/-- The proof data on core `c`. -/
def dats (c : Dev nD) : Dat τ (Elt F) Unit ℕ (UR sig nD τ) ℕ cfg0 c where
  A w := V m c (Pipeline.arrRef spec0 w)
  after w t := leaves m c t w
  Φ t := Pipeline.ΦA spec0 c
  q w := Pipeline.shareOf spec0 w
  owed _ := 0

/-- What the body is called with at point `t`. -/
def bodyPre (c : Dev nD) (t : Fin cfg0.N) : sProp 𝕄 :=
  iprop((dats m c).Φ t.castSucc ∗ (dats m c).owesAt () t.castSucc
    ∗ (∃ d, owns (c : Thread nD τ) (st0_0 t) fullShare ((dats m c).before 0 t d))
    ∗ (∃ d, owns (c : Thread nD τ) (st0_1 t) fullShare ((dats m c).before 1 t d))
    ∗ (∃ d, owns (c : Thread nD τ) (st0_2 t) fullShare ((dats m c).before 2 t d))
    ∗ (∃ d, owns (c : Thread nD τ) (st0_3 t) fullShare ((dats m c).before 3 t d))
    ∗ (∃ d, owns (c : Thread nD τ) (st0_4 t) fullShare ((dats m c).before 4 t d))
    ∗ (∃ d, owns (c : Thread nD τ) (st0_5 t) fullShare ((dats m c).before 5 t d))
    ∗ (∃ d, owns (c : Thread nD τ) (st0_6 t) fullShare ((dats m c).before 6 t d))
    ∗ (∃ d, owns (c : Thread nD τ) (st0_7 t) fullShare ((dats m c).before 7 t d))
    ∗ (∃ d, owns (c : Thread nD τ) (st0_8 t) fullShare ((dats m c).before 8 t d))
    ∗ (∃ d, owns (c : Thread nD τ) (st0_9 t) fullShare ((dats m c).before 9 t d))
    ∗ (∃ d, owns (c : Thread nD τ) (st0_10 t) fullShare ((dats m c).before 10 t d))
    ∗ (∃ Y, ⌜((dats m c).toRRel marked (fun _ _ _ => True)).Finds 11 t Y⌝ ∗ owns (c : Thread nD τ) (st0_11 t) fullShare Y)
    ∗ (∃ Y, ⌜((dats m c).toRRel marked (fun _ _ _ => True)).Finds 12 t Y⌝ ∗ owns (c : Thread nD τ) (st0_12 t) fullShare Y))

/-- What it returns. -/
def bodyPost (c : Dev nD) (t : Fin cfg0.N) : sProp 𝕄 :=
  iprop((dats m c).Φ t.succ ∗ (dats m c).owesAt () t.succ
    ∗ owns (c : Thread nD τ) (st0_0 t) fullShare (leaves m c t 0)
    ∗ owns (c : Thread nD τ) (st0_1 t) fullShare (leaves m c t 1)
    ∗ owns (c : Thread nD τ) (st0_2 t) fullShare (leaves m c t 2)
    ∗ owns (c : Thread nD τ) (st0_3 t) fullShare (leaves m c t 3)
    ∗ owns (c : Thread nD τ) (st0_4 t) fullShare (leaves m c t 4)
    ∗ owns (c : Thread nD τ) (st0_5 t) fullShare (leaves m c t 5)
    ∗ owns (c : Thread nD τ) (st0_6 t) fullShare (leaves m c t 6)
    ∗ owns (c : Thread nD τ) (st0_7 t) fullShare (leaves m c t 7)
    ∗ owns (c : Thread nD τ) (st0_8 t) fullShare (leaves m c t 8)
    ∗ owns (c : Thread nD τ) (st0_9 t) fullShare (leaves m c t 9)
    ∗ owns (c : Thread nD τ) (st0_10 t) fullShare (leaves m c t 10)
    ∗ (∃ X, ⌜True⌝ ∗ owns (c : Thread nD τ) (st0_11 t) fullShare X)
    ∗ (∃ X, ⌜True⌝ ∗ owns (c : Thread nD τ) (st0_12 t) fullShare X))

set_option maxHeartbeats 1600000 in
/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m c).owesAt () t.succ = (dats m c).owesAt () t.castSucc from rfl,
    show (dats m c).Φ t.castSucc = Pipeline.ΦA spec0 c from rfl, show (dats m c).Φ t.succ = Pipeline.ΦA spec0 c from rfl]
  unfold Pipeline.ΦA
  rw [scopedRest0_eq]
  simp only [← owns_whole, before0_0_of m (dats m c) rfl (fun _ => rfl), before0_1_of m (dats m c) rfl (fun _ => rfl), before0_2_of m (dats m c) rfl (fun _ => rfl), before0_3_of m (dats m c) rfl (fun _ => rfl), before0_4_of m (dats m c) rfl (fun _ => rfl), before0_5_of m (dats m c) rfl (fun _ => rfl), before0_6_of m (dats m c) rfl (fun _ => rfl), before0_7_of m (dats m c) rfl (fun _ => rfl), before0_8_of m (dats m c) rfl (fun _ => rfl), before0_9_of m (dats m c) rfl (fun _ => rfl), before0_10_of m (dats m c) rfl (fun _ => rfl)]
  iintro ⟨⟨⟨%s, HS⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%y11, -, H11⟩, ⟨%y12, -, H12⟩⟩
  iapply (run c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) (Memref.whole cc0_scratch0) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [HS]; · iexists _; iexact HS
  iintro ⟨H0, H1, H2, H3, H4, H5, H6, H7, H8, H9, H10, ⟨%z11, H11⟩, ⟨%z12, H12⟩, HS⟩
  isplitl [HS Hg]
  · isplitl [HS]; · iexact HS
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; isplitr [H11]
    · ipureintro; trivial
    · iexact H11
  · iexists _; isplitr [H12]
    · ipureintro; trivial
    · iexact H12

/-- The body table's row at the point is the body. -/
theorem defs₀_row (t : Fin cfg0.N) : defs₀ (F := F) .tc cfg0.body (cfg0.bodyArgs t (cfg0.slots t)) = bodyAt0 t := by
  unfold defs₀; rw [Defs.onTc_tc]

set_option maxHeartbeats 1600000 in
/-- The body obligation. -/
theorem body_obligation (c : Dev nD) : BodyObligationRel (dats m c) (defs₀ (F := F)) Variants.none () Set.univ marked (fun _ _ _ => True) := fun t => by
  rw [bigSep_W0, bigSep_W0, defs₀_row]
  exact triple_restated (sound_body m c t) rfl .rfl fun _ => .rfl

/-- The relational data the launch runs on. -/
abbrev rdat (c : Dev nD) := (dats m c).toRRel marked (fun _ _ _ => True)

set_option backward.isDefEq.respectTransparency.types false in
/-- Every weakly fair execution of the program ends, in a state of which the launch's postcondition holds, with every counter at zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_track_shared (Q' := fun r => Pipeline.RDat.FramePost (cfgs 0) (rdat m) (V m) r ∧ r.2.sem = fun _ => 0)
    cfgs (0 : Fin 1) launch₀0 defs₀ Variants.none (rdat m) m ρ main
    (hbody := fun c => (body_obligation m c).toRRel) (hq := fun c w _ => rfl) (howed := fun _ _ => rfl)
    (V := V m) (hmain := hmain m Variants.none) (hA := fun _ _ => rfl)
    (hin := fun _ => .rfl) (hout := fun _ => .rfl)

variable {m ρ}

/-- A buffer that no window reads or writes is at the end as the region found it. -/
theorem rest_eq {r : PUnit × MemSt nD τ sig (Elt F)} (h : Pipeline.RDat.FramePost (cfgs 0) (rdat m) (V m) r) (c : Dev nD) (b : Ref sig .tc)
    (hs : b ∈ Pipeline.restRefs sig (cfgs 0).spec) : r.2.mem ((c : Thread nD τ).loc b) = V m c b :=
  (h c).2 b hs

end Cert.Kernel.Ends
-- ==== Proof.KernelIdeal.Body.lean ====
module

public import proofs.«01_k».proof.Proof.Gen.KernelIdeal.Frame
public import proofs.«01_k».proof.Proof.Gen.KernelIdeal.Skeleton
public import Idealize.ShloMosaic.Lib.Tactic
public import Idealize.ShloMosaic.Lib.WritesUnit
public import Idealize.ShloMosaic.Lib.Pointwise.Index

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- What a load at the rectangle `r` reads off the contents `X`. -/
abbrev ld {s : Shape} {e : EltTy} (r : Rect s) (X : s.Idx → Elt F e) : r.shape.Idx → Elt F e := fun j => X (r.emb j)

/-- Batch element `g` of an input block: its slab lies inside the block. -/
theorem inb_x : ∀ g : Fin 2, ∀ a, (![0, g.val, 0, 0, 0] : Fin 5 → Nat) a + S1x1x1x1024x256.size a ≤ S1x2x1x1024x256.size a := by decide

/-- Batch element `g` of a block of contexts: its slab lies inside the block. -/
theorem inb_c : ∀ g : Fin 2, ∀ a, (![g.val, 0, 0] : Fin 3 → Nat) a + S1x4x256.size a ≤ S2x4x256.size a := by decide

/-- The matrix of head `h` lies inside the output weights. -/
theorem inb_o : ∀ h : Fin 4, ∀ a, (![h.val, 0, 0] : Fin 3 → Nat) a + S1x256x256.size a ≤ S4x256x256.size a := by decide

/-- The 1024 by 256 slab of batch element `g` in an input block. -/
abbrev xSlab (g : Fin 2) (X : S1x2x1x1024x256.Idx → Elt F .f32) : S1x1x1x1024x256.Idx → Elt F .f32 :=
  ld (Rect.unit (s := S1x2x1x1024x256) ![0, g.val, 0, 0, 0] S1x1x1x1024x256.size (inb_x g)) X

/-- The contexts of batch element `g`. -/
abbrev cSlab (g : Fin 2) (s : S2x4x256.Idx → Elt F .f32) : S1x4x256.Idx → Elt F .f32 :=
  ld (Rect.unit (s := S2x4x256) ![g.val, 0, 0] S1x4x256.size (inb_c g)) s

/-- The output matrix of head `h`. -/
abbrev oSlab (h : Fin 4) (wo : S4x256x256.Idx → Elt F .f32) : S1x256x256.Idx → Elt F .f32 :=
  ld (Rect.unit (s := S4x256x256) ![h.val, 0, 0] S1x256x256.size (inb_o h)) wo

/-- A block of 256 by 256 read whole. -/
abbrev all256 (w : S256x256.Idx → Elt F .f32) : S256x256.Idx → Elt F .f32 :=
  ld (Rect.unit (s := S256x256) ![0, 0] S256x256.size inb_S256x256_S256x256_0_0) w

/-- A block of one row read whole. -/
abbrev all1 (w : S1x256.Idx → Elt F .f32) : S1x256.Idx → Elt F .f32 :=
  ld (Rect.unit (s := S1x256) ![0, 0] S1x256.size inb_S1x256_S1x256_0_0) w

/-- A block of four rows read whole. -/
abbrev all4 (w : S4x256.Idx → Elt F .f32) : S4x256.Idx → Elt F .f32 :=
  ld (Rect.unit (s := S4x256) ![0, 0] S4x256.size inb_S4x256_S4x256_0_0) w

/-- The weights of one batch element, from its four chunks. -/
def wRow (w1 : S256x256.Idx → Elt F .f32) (b1 : S1x256.Idx → Elt F .f32) (st : S4x256.Idx → Elt F .f32)
    (X1 X2 X3 X4 : S1x1x1x1024x256.Idx → Elt F .f32) : S1x4x4096.Idx → Elt F .f32 :=
  k0_pay3 (k0_pay21 w1 b1 st X1) (k0_pay21 w1 b1 st X2) (k0_pay21 w1 b1 st X3) (k0_pay21 w1 b1 st X4)

/-- The contexts of one batch element, from its four chunks. -/
def cRow (w1 : S256x256.Idx → Elt F .f32) (b1 : S1x256.Idx → Elt F .f32) (st : S4x256.Idx → Elt F .f32)
    (X1 X2 X3 X4 : S1x1x1x1024x256.Idx → Elt F .f32) : S1x4x256.Idx → Elt F .f32 :=
  k0_pay4 k0_pay37 (k0_pay21 w1 b1 st X1) (k0_pay22 w1 b1 st X1) (k0_pay21 w1 b1 st X2) (k0_pay22 w1 b1 st X2)
    (k0_pay21 w1 b1 st X3) (k0_pay22 w1 b1 st X3) (k0_pay20 X4) (k0_pay21 w1 b1 st X4)
    (truncf .bf16 (k0_pay21 w1 b1 st X4) bitsLt_bf16_f32)

/-- One row of the output, from the contexts of one batch element. -/
def oRow (ctx : S1x4x256.Idx → Elt F .f32) (wo : S4x256x256.Idx → Elt F .f32) (bo ga be : S1x256.Idx → Elt F .f32) :
    S1x1x256.Idx → Elt F .f32 :=
  k0_pay7 (k0_pay5 ctx (all1 bo) (oSlab 0 wo) (oSlab 1 wo) (oSlab 2 wo) (oSlab 3 wo))
    (k0_pay6 ctx (all1 bo) (oSlab 0 wo) (oSlab 1 wo) (oSlab 2 wo) (oSlab 3 wo)) (all1 ga) (all1 be)

/-- The block of weights one point leaves. -/
def wBlk (x1 x2 x3 x4 : S1x2x1x1024x256.Idx → Elt F .f32) (w1 : S256x256.Idx → Elt F .f32) (b1 : S1x256.Idx → Elt F .f32)
    (st : S4x256.Idx → Elt F .f32) : S2x4x4096.Idx → Elt F .f32 := fun y =>
  wRow (all256 w1) (all1 b1) (all4 st) (xSlab (y 0) x1) (xSlab (y 0) x2) (xSlab (y 0) x3) (xSlab (y 0) x4)
    (ix3 (0 : Fin 1) (y 1) (y 2))

/-- The block of contexts one point leaves in the scratch buffer. -/
def cBlk (x1 x2 x3 x4 : S1x2x1x1024x256.Idx → Elt F .f32) (w1 : S256x256.Idx → Elt F .f32) (b1 : S1x256.Idx → Elt F .f32)
    (st : S4x256.Idx → Elt F .f32) : S2x4x256.Idx → Elt F .f32 := fun y =>
  cRow (all256 w1) (all1 b1) (all4 st) (xSlab (y 0) x1) (xSlab (y 0) x2) (xSlab (y 0) x3) (xSlab (y 0) x4)
    (ix3 (0 : Fin 1) (y 1) (y 2))

/-- The block of output rows after one point: two rows overwritten, the others as found. -/
def oBlk (i : grid0.Coords) (s : S2x4x256.Idx → Elt F .f32) (wo : S4x256x256.Idx → Elt F .f32) (bo ga be : S1x256.Idx → Elt F .f32)
    (y : S64x1x256.Idx → Elt F .f32) : S64x1x256.Idx → Elt F .f32 := fun j =>
  if (j 0).val = 2 * ((i 0).val - 1) + 1 then oRow (cSlab 1 s) wo bo ga be (ix3 (0 : Fin 1) (j 1) (j 2))
  else if (j 0).val = 2 * ((i 0).val - 1) then oRow (cSlab 0 s) wo bo ga be (ix3 (0 : Fin 1) (j 1) (j 2))
  else y j

/-- The first of the two rows written at a point. -/
theorem off1_0 : ∀ i : grid0.Coords, k0_off1 i 0#32 = ![2 * ((i 0).val - 1), 0, 0] := by decide +kernel

/-- The second of the two rows written at a point. -/
theorem off1_1 : ∀ i : grid0.Coords, k0_off1 i 1#32 = ![2 * ((i 0).val - 1) + 1, 0, 0] := by decide +kernel

section Reads

variable {κ : Kind} {sp : Space}

/-- Two stores of a slab each, read back: the block of weights. -/
theorem read_wBlk (v : View sig κ sp S2x4x4096 .f32) (f : v.ty.Contents (Elt F)) (h0 h1) (G : Fin 2 → S1x4x4096.Idx → Elt F .f32) :
    v.read (Elt F) (v.writes (Elt F) f
      [⟨Rect.unit (s := S2x4x4096) ![1, 0, 0] S1x4x4096.size h1, G 1⟩, ⟨Rect.unit (s := S2x4x4096) ![0, 0, 0] S1x4x4096.size h0, G 0⟩])
      = fun y => G (y 0) (ix3 (0 : Fin 1) (y 1) (y 2)) := by
  funext y
  have h : y 0 = (1 : Fin 2) ∨ y 0 = (0 : Fin 2) := by
    have : (y 0 : Fin 2).val < 2 := (y 0 : Fin 2).isLt
    rcases Nat.lt_or_ge (y 0 : Fin 2).val 1 with h | h
    · right; apply Fin.ext; show (y 0 : Fin 2).val = 0; omega
    · left; apply Fin.ext; show (y 0 : Fin 2).val = 1; omega
  obtain h | h := h
  · rw [h]
    refine View.read_writes_cons_unit_of_mem v f h1 (G 1) _ y (ix3 (0 : Fin 1) (y 1) (y 2)) rfl ?_
    refine Fin.forall_fin_succ.mpr ⟨congrArg Fin.val h, Fin.forall_fin_two.mpr ⟨(Nat.zero_add _).symm, (Nat.zero_add _).symm⟩⟩
  · rw [View.read_writes_cons_unit_of_not_mem v f h1 (G 1) _ y rfl 0 (.inl (by rw [h]; exact Nat.one_pos)), h]
    refine View.read_writes_cons_unit_of_mem v f h0 (G 0) _ y (ix3 (0 : Fin 1) (y 1) (y 2)) rfl ?_
    refine Fin.forall_fin_succ.mpr ⟨congrArg Fin.val h, Fin.forall_fin_two.mpr ⟨(Nat.zero_add _).symm, (Nat.zero_add _).symm⟩⟩

/-- Two stores of a slab each, read back: the block of contexts. -/
theorem read_cBlk (v : View sig κ sp S2x4x256 .f32) (f : v.ty.Contents (Elt F)) (h0 h1) (G : Fin 2 → S1x4x256.Idx → Elt F .f32) :
    v.read (Elt F) (v.writes (Elt F) f
      [⟨Rect.unit (s := S2x4x256) ![1, 0, 0] S1x4x256.size h1, G 1⟩, ⟨Rect.unit (s := S2x4x256) ![0, 0, 0] S1x4x256.size h0, G 0⟩])
      = fun y => G (y 0) (ix3 (0 : Fin 1) (y 1) (y 2)) := by
  funext y
  have h : y 0 = (1 : Fin 2) ∨ y 0 = (0 : Fin 2) := by
    have : (y 0 : Fin 2).val < 2 := (y 0 : Fin 2).isLt
    rcases Nat.lt_or_ge (y 0 : Fin 2).val 1 with h | h
    · right; apply Fin.ext; show (y 0 : Fin 2).val = 0; omega
    · left; apply Fin.ext; show (y 0 : Fin 2).val = 1; omega
  obtain h | h := h
  · rw [h]
    refine View.read_writes_cons_unit_of_mem v f h1 (G 1) _ y (ix3 (0 : Fin 1) (y 1) (y 2)) rfl ?_
    refine Fin.forall_fin_succ.mpr ⟨congrArg Fin.val h, Fin.forall_fin_two.mpr ⟨(Nat.zero_add _).symm, (Nat.zero_add _).symm⟩⟩
  · rw [View.read_writes_cons_unit_of_not_mem v f h1 (G 1) _ y rfl 0 (.inl (by rw [h]; exact Nat.one_pos)), h]
    refine View.read_writes_cons_unit_of_mem v f h0 (G 0) _ y (ix3 (0 : Fin 1) (y 1) (y 2)) rfl ?_
    refine Fin.forall_fin_succ.mpr ⟨congrArg Fin.val h, Fin.forall_fin_two.mpr ⟨(Nat.zero_add _).symm, (Nat.zero_add _).symm⟩⟩

/-- Two stores of a row each into the output block, read back: the two rows are new, the others as before. -/
theorem read_oBlk (v : View sig κ sp S64x1x256 .f32) (f : v.ty.Contents (Elt F)) (i : grid0.Coords) (h0 h1) (R0 R1 : S1x1x256.Idx → Elt F .f32) :
    v.read (Elt F) (v.writes (Elt F) f
      [⟨Rect.unit (s := S64x1x256) (k0_off1 i 1#32) S1x1x256.size h1, R1⟩, ⟨Rect.unit (s := S64x1x256) (k0_off1 i 0#32) S1x1x256.size h0, R0⟩])
      = fun j => if (j 0).val = 2 * ((i 0).val - 1) + 1 then R1 (ix3 (0 : Fin 1) (j 1) (j 2))
          else if (j 0).val = 2 * ((i 0).val - 1) then R0 (ix3 (0 : Fin 1) (j 1) (j 2)) else v.read (Elt F) f j := by
  funext j
  split
  · next e =>
    refine View.read_writes_cons_unit_of_mem v f h1 R1 _ j (ix3 (0 : Fin 1) (j 1) (j 2)) (off1_1 i) ?_
    refine Fin.forall_fin_succ.mpr ⟨e, Fin.forall_fin_two.mpr ⟨(Nat.zero_add _).symm, (Nat.zero_add _).symm⟩⟩
  · next e =>
    rw [View.read_writes_cons_unit_of_not_mem v f h1 R1 _ j (off1_1 i) 0 (by
      show (j 0).val < 2 * ((i 0).val - 1) + 1 ∨ 2 * ((i 0).val - 1) + 1 + 1 ≤ (j 0).val
      omega)]
    split
    · next e =>
      refine View.read_writes_cons_unit_of_mem v f h0 R0 _ j (ix3 (0 : Fin 1) (j 1) (j 2)) (off1_0 i) ?_
      refine Fin.forall_fin_succ.mpr ⟨e, Fin.forall_fin_two.mpr ⟨(Nat.zero_add _).symm, (Nat.zero_add _).symm⟩⟩
    · next e =>
      rw [View.read_writes_cons_unit_of_not_mem v f h0 R0 _ j (off1_0 i) 0 (by
        show (j 0).val < 2 * ((i 0).val - 1) ∨ 2 * ((i 0).val - 1) + 1 ≤ (j 0).val
        omega)]
      rfl

end Reads

/-- One point of the kernel: the inputs keep their contents, the output rows, the weights and the contexts are as the definitions
    above say. -/
theorem run (c : Dev nD) (i : grid0.Coords) (arg1 : Memref sig .tc .vmem S1x2x1x1024x256 .f32) (harg1 : arg1.IsWhole) (arg2 : Memref sig .tc .vmem S1x2x1x1024x256 .f32) (harg2 : arg2.IsWhole) (arg3 : Memref sig .tc .vmem S1x2x1x1024x256 .f32) (harg3 : arg3.IsWhole) (arg4 : Memref sig .tc .vmem S1x2x1x1024x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S4x256 .f32) (harg7 : arg7.IsWhole) (arg8 : Memref sig .tc .vmem S4x256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S64x1x256 .f32) (harg12 : arg12.IsWhole) (arg13 : Memref sig .tc .vmem S2x4x4096 .f32) (harg13 : arg13.IsWhole) (arg14 : Memref sig .tc .vmem S2x4x256 .f32) (harg14 : arg14.IsWhole)
    (x1 x2 x3 x4 : S1x2x1x1024x256.Idx → Elt F .f32) (w1 : S256x256.Idx → Elt F .f32) (b1 : S1x256.Idx → Elt F .f32) (st : S4x256.Idx → Elt F .f32)
    (wo : S4x256x256.Idx → Elt F .f32) (bo ga be : S1x256.Idx → Elt F .f32) (y : S64x1x256.Idx → Elt F .f32) (s : S2x4x256.Idx → Elt F .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare w1 ∗ owns (c : Thread nD τ) arg6 fullShare b1
        ∗ owns (c : Thread nD τ) arg7 fullShare st ∗ owns (c : Thread nD τ) arg8 fullShare wo ∗ owns (c : Thread nD τ) arg9 fullShare bo
        ∗ owns (c : Thread nD τ) arg10 fullShare ga ∗ owns (c : Thread nD τ) arg11 fullShare be ∗ owns (c : Thread nD τ) arg12 fullShare y
        ∗ (∃ d, owns (c : Thread nD τ) arg13 fullShare d) ∗ owns (c : Thread nD τ) arg14 fullShare s
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare w1 ∗ owns (c : Thread nD τ) arg6 fullShare b1
        ∗ owns (c : Thread nD τ) arg7 fullShare st ∗ owns (c : Thread nD τ) arg8 fullShare wo ∗ owns (c : Thread nD τ) arg9 fullShare bo
        ∗ owns (c : Thread nD τ) arg10 fullShare ga ∗ owns (c : Thread nD τ) arg11 fullShare be ∗ owns (c : Thread nD τ) arg12 fullShare (oBlk i s wo bo ga be y)
        ∗ owns (c : Thread nD τ) arg13 fullShare (wBlk x1 x2 x3 x4 w1 b1 st) ∗ owns (c : Thread nD τ) arg14 fullShare (cBlk x1 x2 x3 x4 w1 b1 st)) -∗ K ⟨⟩))
      ⊢ wp frame (wpE (defs₀ (F := F)) Variants.none c none) Set.univ
          (cc0__body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, Hk⟩
  sl_exec
  sl_step
  iapply Hk
  isplitl [H1]
  · iexists f1; isplitr [H1]
    · ipureintro; exact hf1
    · iexact H1
  isplitl [H2]
  · iexists f2; isplitr [H2]
    · ipureintro; exact hf2
    · iexact H2
  isplitl [H3]
  · iexists f3; isplitr [H3]
    · ipureintro; exact hf3
    · iexact H3
  isplitl [H4]
  · iexists f4; isplitr [H4]
    · ipureintro; exact hf4
    · iexact H4
  isplitl [H5]
  · iexists f5; isplitr [H5]
    · ipureintro; exact hf5
    · iexact H5
  isplitl [H6]
  · iexists f6; isplitr [H6]
    · ipureintro; exact hf6
    · iexact H6
  isplitl [H7]
  · iexists f7; isplitr [H7]
    · ipureintro; exact hf7
    · iexact H7
  isplitl [H8]
  · iexists f8; isplitr [H8]
    · ipureintro; exact hf8
    · iexact H8
  isplitl [H9]
  · iexists f9; isplitr [H9]
    · ipureintro; exact hf9
    · iexact H9
  isplitl [H10]
  · iexists f10; isplitr [H10]
    · ipureintro; exact hf10
    · iexact H10
  isplitl [H11]
  · iexists f11; isplitr [H11]
    · ipureintro; exact hf11
    · iexact H11
  subst hf1 hf2 hf3 hf4 hf5 hf6 hf7 hf8 hf9 hf10 hf11 hf12 hf14
  isplitl [H12]
  · iexists _; isplitr [H12]
    · ipureintro
      exact read_oBlk arg12.view f12 i (k0_off1_inb i 0) (k0_off1_inb i 1) _ _
    · iexact H12
  isplitl [H13]
  · iexists _; isplitr [H13]
    · ipureintro
      exact read_wBlk arg13.view f13 inb_S2x4x4096_S1x4x4096_0_0_0 inb_S2x4x4096_S1x4x4096_1_0_0 (fun g => wRow (all256 (arg5.view.read (Elt F) f5)) (all1 (arg6.view.read (Elt F) f6)) (all4 (arg7.view.read (Elt F) f7))
        (xSlab g (arg1.view.read (Elt F) f1)) (xSlab g (arg2.view.read (Elt F) f2)) (xSlab g (arg3.view.read (Elt F) f3)) (xSlab g (arg4.view.read (Elt F) f4)))
    · iexact H13
  · iexists _; isplitr [H14]
    · ipureintro
      exact read_cBlk arg14.view f14 inb_S2x4x256_S1x4x256_0_0_0 inb_S2x4x256_S1x4x256_1_0_0 (fun g => cRow (all256 (arg5.view.read (Elt F) f5)) (all1 (arg6.view.read (Elt F) f6)) (all4 (arg7.view.read (Elt F) f7))
        (xSlab g (arg1.view.read (Elt F) f1)) (xSlab g (arg2.view.read (Elt F) f2)) (xSlab g (arg3.view.read (Elt F) f3)) (xSlab g (arg4.view.read (Elt F) f4)))
    · iexact H14

end Cert.KernelIdeal.Body
-- ==== Proof.KernelIdeal.Data.lean ====
module

public import proofs.«01_k».proof.Proof.KernelIdeal.Body
public import Idealize.ShloMosaic.Lib.Pipeline.DatRel

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contexts that point `t` leaves in the scratch buffer. -/
def ctxAt (c : Dev nD) (t : Fin cfg0.N) : S2x4x256.Idx → Elt F .f32 :=
  cBlk (iblk m c 0 t) (iblk m c 1 t) (iblk m c 2 t) (iblk m c 3 t) (iblk m c 4 t) (iblk m c 5 t) (iblk m c 6 t)

/-- The block of weights that point `t` leaves. -/
def wAt (c : Dev nD) (t : Fin cfg0.N) : S2x4x4096.Idx → Elt F .f32 :=
  wBlk (iblk m c 0 t) (iblk m c 1 t) (iblk m c 2 t) (iblk m c 3 t) (iblk m c 4 t) (iblk m c 5 t) (iblk m c 6 t)

/-- The output row of batch element `g` of pair `u`, computed at point `v`. -/
def rowAt (c : Dev nD) (u v : Fin cfg0.N) (g : Fin 2) : S1x1x256.Idx → Elt F .f32 :=
  oRow (cSlab g (ctxAt m c u)) (iblk m c 7 v) (iblk m c 8 v) (iblk m c 9 v) (iblk m c 10 v)

/-- The rows of every pair before point `t` are final. -/
def RowsDone (c : Dev nD) (t : Fin cfg0.N) (X : S64x1x256.Idx → Elt F .f32) : Prop :=
  ∀ u v : Fin cfg0.N, u.val + 1 = v.val → v.val ≤ t.val → ∀ (g : Fin 2) (j : S64x1x256.Idx), (j 0).val = 2 * u.val + g.val →
    X j = rowAt m c u v g (ix3 (0 : Fin 1) (j 1) (j 2))

/-- The scratch buffer before the point with number `n`: what the point before left in it. -/
def ScratchIs (c : Dev nD) (n : Nat) (f : S2x4x256.Idx → Elt F .f32) : Prop :=
  ∀ u : Fin cfg0.N, u.val + 1 = n → f = ctxAt m c u

/-- What the body leaves in each window; the output block is held to `RowsDone` instead. -/
def leaves (c : Dev nD) (t : Fin cfg0.N) : (w : Fin cfg0.W) → (cfg0.win w).block.Idx → Elt F (cfg0.win w).elt
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => iblk m c 5 t
  | ⟨6, _⟩ => iblk m c 6 t
  | ⟨7, _⟩ => iblk m c 7 t
  | ⟨8, _⟩ => iblk m c 8 t
  | ⟨9, _⟩ => iblk m c 9 t
  | ⟨10, _⟩ => iblk m c 10 t
  | ⟨11, _⟩ => Pipeline.Dat.unnamed (cfg := cfg0) 11 t
  | ⟨12, _⟩ => wAt m c t

/-- The one window held to a predicate: the output block. -/
def marked (w : Fin cfg0.W) : Bool := decide (w = 11)

/-- The predicate the output block is held to. -/
def Held (c : Dev nD) : (w : Fin cfg0.W) → Fin cfg0.N → ((cfg0.win w).block.Idx → Elt F (cfg0.win w).elt) → Prop
  | ⟨11, _⟩ => fun t X => RowsDone m c t X
  | _ => fun _ _ => True

/-- The proof data on core `c`. -/
def dats (c : Dev nD) : Dat τ (Elt F) Unit ℕ (UR sig nD τ) ℕ cfg0 c where
  A w := V m c (Pipeline.arrRef spec0 w)
  after w t := leaves m c t w
  Φ t := iprop((∃ f, ⌜ScratchIs m c t.val f⌝ ∗ owns (c : Thread nD τ) (Memref.whole cc0_scratch0) fullShare f) ∗ ∃ r, prngReg c r)
  q w := Pipeline.shareOf spec0 w
  owed _ := 0

theorem coords_val : ∀ t : Fin grid0.N, ((grid0.coords t) 0).val = t.val := by decide

/-- The rows done before a point, with the two rows it writes, are the rows done after it. -/
theorem rowsDone_step (c : Dev nD) (t : Fin cfg0.N) (s : S2x4x256.Idx → Elt F .f32) (y : S64x1x256.Idx → Elt F .f32)
    (hs : ScratchIs m c t.val s) (hy : ∀ u : Fin cfg0.N, u.val + 1 = t.val → RowsDone m c u y) :
    RowsDone m c t (oBlk (grid0.coords t) s (iblk m c 7 t) (iblk m c 8 t) (iblk m c 9 t) (iblk m c 10 t) y) := by
  intro u v huv hvt g j hj
  have hc := coords_val t
  have hg := g.isLt
  unfold oBlk
  rcases Nat.lt_or_ge v.val t.val with h | h
  · rw [if_neg (by omega), if_neg (by omega)]
    exact hy ⟨t.val - 1, by omega⟩ (by show t.val - 1 + 1 = t.val; omega) u v huv (by show v.val ≤ t.val - 1; omega) g j hj
  · obtain rfl : v = t := Fin.ext (by omega)
    obtain rfl : s = ctxAt m c u := hs u huv
    rcases Nat.lt_or_ge g.val 1 with h0 | h1
    · obtain rfl : g = 0 := Fin.ext (by show g.val = 0; omega)
      rw [if_neg (by show ¬ (j 0).val = _; simp only [Fin.val_zero] at hj; omega), if_pos (by simp only [Fin.val_zero] at hj; omega)]
      rfl
    · obtain rfl : g = 1 := Fin.ext (by show g.val = 1; omega)
      rw [if_pos (by simp only [Fin.val_one] at hj; omega)]
      rfl

/-- What the body may find in the output block after the first point: the rows done at the point before. -/
theorem finds_rows (c : Dev nD) (t : Fin cfg0.N) (Y : S64x1x256.Idx → Elt F .f32)
    (h : ((dats m c).toRRel marked (Held m c)).Finds 11 t Y) (u : Fin cfg0.N) (hu : u.val + 1 = t.val) : RowsDone m c u Y := by
  have hlt : t.val < 33 := N_0 ▸ t.isLt
  have hu' : (⟨t.val - 1, Nat.lt_of_le_of_lt (Nat.sub_le _ _) t.isLt⟩ : Fin cfg0.N) = u := Fin.ext (by show t.val - 1 = u.val; omega)
  rw [Pipeline.RDat.finds_of_pos _ rfl (by omega), hu'] at h
  rcases h with h | h
  · have := (flush0_11 u).mp h; omega
  · exact (dats m c).toRRel_leaves (w := 11) rfl h

end Cert.KernelIdeal.Body
-- ==== Proof.KernelIdeal.Sound.lean ====
module

public import proofs.«01_k».proof.Proof.KernelIdeal.Data

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (c : Dev nD) (t : Fin cfg0.N) : sProp 𝕄 :=
  iprop((dats m c).Φ t.castSucc ∗ (dats m c).owesAt () t.castSucc
    ∗ (∃ d, owns (c : Thread nD τ) (st0_0 t) fullShare ((dats m c).before 0 t d))
    ∗ (∃ d, owns (c : Thread nD τ) (st0_1 t) fullShare ((dats m c).before 1 t d))
    ∗ (∃ d, owns (c : Thread nD τ) (st0_2 t) fullShare ((dats m c).before 2 t d))
    ∗ (∃ d, owns (c : Thread nD τ) (st0_3 t) fullShare ((dats m c).before 3 t d))
    ∗ (∃ d, owns (c : Thread nD τ) (st0_4 t) fullShare ((dats m c).before 4 t d))
    ∗ (∃ d, owns (c : Thread nD τ) (st0_5 t) fullShare ((dats m c).before 5 t d))
    ∗ (∃ d, owns (c : Thread nD τ) (st0_6 t) fullShare ((dats m c).before 6 t d))
    ∗ (∃ d, owns (c : Thread nD τ) (st0_7 t) fullShare ((dats m c).before 7 t d))
    ∗ (∃ d, owns (c : Thread nD τ) (st0_8 t) fullShare ((dats m c).before 8 t d))
    ∗ (∃ d, owns (c : Thread nD τ) (st0_9 t) fullShare ((dats m c).before 9 t d))
    ∗ (∃ d, owns (c : Thread nD τ) (st0_10 t) fullShare ((dats m c).before 10 t d))
    ∗ (∃ Y, ⌜((dats m c).toRRel marked (Held m c)).Finds 11 t Y⌝ ∗ owns (c : Thread nD τ) (st0_11 t) fullShare Y)
    ∗ (∃ d, owns (c : Thread nD τ) (st0_12 t) fullShare ((dats m c).before 12 t d)))

/-- What it returns. -/
def bodyPost (c : Dev nD) (t : Fin cfg0.N) : sProp 𝕄 :=
  iprop((dats m c).Φ t.succ ∗ (dats m c).owesAt () t.succ
    ∗ owns (c : Thread nD τ) (st0_0 t) fullShare (leaves m c t 0)
    ∗ owns (c : Thread nD τ) (st0_1 t) fullShare (leaves m c t 1)
    ∗ owns (c : Thread nD τ) (st0_2 t) fullShare (leaves m c t 2)
    ∗ owns (c : Thread nD τ) (st0_3 t) fullShare (leaves m c t 3)
    ∗ owns (c : Thread nD τ) (st0_4 t) fullShare (leaves m c t 4)
    ∗ owns (c : Thread nD τ) (st0_5 t) fullShare (leaves m c t 5)
    ∗ owns (c : Thread nD τ) (st0_6 t) fullShare (leaves m c t 6)
    ∗ owns (c : Thread nD τ) (st0_7 t) fullShare (leaves m c t 7)
    ∗ owns (c : Thread nD τ) (st0_8 t) fullShare (leaves m c t 8)
    ∗ owns (c : Thread nD τ) (st0_9 t) fullShare (leaves m c t 9)
    ∗ owns (c : Thread nD τ) (st0_10 t) fullShare (leaves m c t 10)
    ∗ (∃ X, ⌜RowsDone m c t X⌝ ∗ owns (c : Thread nD τ) (st0_11 t) fullShare X)
    ∗ owns (c : Thread nD τ) (st0_12 t) fullShare (leaves m c t 12))

set_option maxHeartbeats 1600000 in
/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m c).owesAt () t.succ = (dats m c).owesAt () t.castSucc from rfl,
    show (dats m c).Φ t.castSucc = iprop((∃ f, ⌜ScratchIs m c t.val f⌝ ∗ owns (c : Thread nD τ) (Memref.whole cc0_scratch0) fullShare f) ∗ ∃ r, prngReg c r) from rfl,
    show (dats m c).Φ t.succ = iprop((∃ f, ⌜ScratchIs m c (t.val + 1) f⌝ ∗ owns (c : Thread nD τ) (Memref.whole cc0_scratch0) fullShare f) ∗ ∃ r, prngReg c r) from rfl]
  simp only [before0_0_of m (dats m c) rfl (fun _ => rfl), before0_1_of m (dats m c) rfl (fun _ => rfl), before0_2_of m (dats m c) rfl (fun _ => rfl), before0_3_of m (dats m c) rfl (fun _ => rfl), before0_4_of m (dats m c) rfl (fun _ => rfl), before0_5_of m (dats m c) rfl (fun _ => rfl), before0_6_of m (dats m c) rfl (fun _ => rfl), before0_7_of m (dats m c) rfl (fun _ => rfl), before0_8_of m (dats m c) rfl (fun _ => rfl), before0_9_of m (dats m c) rfl (fun _ => rfl), before0_10_of m (dats m c) rfl (fun _ => rfl)]
  iintro ⟨⟨⟨%s, %hs, HS⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%y, %hy, H11⟩, ⟨%d12, H12⟩⟩
  iapply (run c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) (Memref.whole cc0_scratch0) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) y s _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS]; · iexact HS
  iintro ⟨H0, H1, H2, H3, H4, H5, H6, H7, H8, H9, H10, H11, H12, HS⟩
  isplitl [HS Hg]
  · isplitl [HS]
    · iexists _; isplitr [HS]
      · ipureintro; exact fun u hu => by rw [show u = t from Fin.ext (Nat.succ.inj hu)]
      · iexact HS
    · iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; isplitr [H11]
    · ipureintro; exact rowsDone_step m c t s y hs fun u hu => finds_rows m c t y hy u hu
    · iexact H11
  iexact H12

end Cert.KernelIdeal.Body
-- ==== Proof.KernelIdeal.Run.lean ====
module

public import proofs.«01_k».proof.Proof.KernelIdeal.Sound

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body table's row at the point is the body. -/
theorem defs₀_row (t : Fin cfg0.N) : defs₀ (F := F) .tc cfg0.body (cfg0.bodyArgs t (cfg0.slots t)) = bodyAt0 t := by
  unfold defs₀; rw [Defs.onTc_tc]

set_option maxHeartbeats 1600000 in
/-- The body obligation, the output block held to its predicate. -/
theorem body_obligation (c : Dev nD) : BodyObligationRel (dats m c) (defs₀ (F := F)) Variants.none () Set.univ marked (Held m c) := fun t => by
  rw [bigSep_W0, bigSep_W0, defs₀_row]
  exact triple_restated (sound_body m c t) rfl .rfl fun _ => .rfl

/-- The relational data the launch runs on. -/
abbrev rdat (c : Dev nD) := (dats m c).toRRel marked (Held m c)

set_option backward.isDefEq.respectTransparency.types false in
/-- Every weakly fair execution of the program ends, in a state of which the launch's postcondition holds, with every counter at zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_track_shared (Q' := fun r => Pipeline.RDat.FramePost (cfgs 0) (rdat m) (V m) r ∧ r.2.sem = fun _ => 0)
    cfgs (0 : Fin 1) launch₀0 defs₀ Variants.none (rdat m) m ρ main
    (hbody := fun c => (body_obligation m c).toRRel) (hq := fun c w _ => rfl) (howed := fun _ _ => rfl)
    (V := V m) (hmain := hmain m Variants.none) (hA := fun _ _ => rfl)
    (hin := fun c => by
      show Pipeline.ΦA spec0 c ⊢ iprop((∃ f, ⌜ScratchIs m c 0 f⌝ ∗ owns (c : Thread nD τ) (Memref.whole cc0_scratch0) fullShare f) ∗ ∃ r, prngReg c r)
      unfold Pipeline.ΦA
      rw [scopedRest0_eq]
      simp only [owns_whole]
      iintro ⟨⟨%f, H⟩, Hg⟩
      isplitl [H]
      · iexists f
        isplitr [H]
        · ipureintro; exact fun u hu => absurd hu (Nat.succ_ne_zero _)
        · iexact H
      · iexact Hg)
    (hout := fun c => by
      show iprop((∃ f, ⌜ScratchIs m c _ f⌝ ∗ owns (c : Thread nD τ) (Memref.whole cc0_scratch0) fullShare f) ∗ ∃ r, prngReg c r) ⊢ Pipeline.ΦA spec0 c
      unfold Pipeline.ΦA
      rw [scopedRest0_eq]
      simp only [owns_whole]
      iintro ⟨⟨%f, -, H⟩, Hg⟩
      isplitl [H]
      · iexists f; iexact H
      · iexact Hg)

variable {m ρ}

/-- A buffer that no window reads or writes is at the end as the region found it. -/
theorem rest_eq {r : PUnit × MemSt nD τ sig (Elt F)} (h : Pipeline.RDat.FramePost (cfgs 0) (rdat m) (V m) r) (c : Dev nD) (b : Ref sig .tc)
    (hs : b ∈ Pipeline.restRefs sig (cfgs 0).spec) : r.2.mem ((c : Thread nD τ).loc b) = V m c b :=
  (h c).2 b hs

end Cert.KernelIdeal.Body
-- ==== Proof.Frames.lean ====
module

public import proofs.«01_k».proof.Defs
public import proofs.«01_k».proof.Proof.Kernel.Ends
public import proofs.«01_k».proof.Proof.KernelIdeal.Run
public import proofs.«01_k».proof.Proof.Gen.ReferenceIdeal.Run

@[expose] public section

noncomputable section

open Idealize.ShloMosaic Idealize.ShloMosaic.TcCoe Idealize.SL.Sem

namespace Cert.Kernel.Ends

open Cert.Kernel Cert.Kernel.Gen

/-- The kernel as compiled ends with its arguments as launched and every counter at zero. -/
theorem frame : Cert.quiescent_Kernel := fun m g _ =>
  (θ_run _ _ _).mono (fun r h => ⟨fun c =>
    ⟨(rest_eq h.1 c main_arg0 (Pipeline.mem_restRefs_of main_arg0 (by decide) (by decide))).trans (V_main_arg0 m c),
     (rest_eq h.1 c main_arg1 (Pipeline.mem_restRefs_of main_arg1 (by decide) (by decide))).trans (V_main_arg1 m c),
     (rest_eq h.1 c main_arg2 (Pipeline.mem_restRefs_of main_arg2 (by decide) (by decide))).trans (V_main_arg2 m c),
     (rest_eq h.1 c main_arg3 (Pipeline.mem_restRefs_of main_arg3 (by decide) (by decide))).trans (V_main_arg3 m c),
     (rest_eq h.1 c main_arg4 (Pipeline.mem_restRefs_of main_arg4 (by decide) (by decide))).trans (V_main_arg4 m c),
     (rest_eq h.1 c main_arg5 (Pipeline.mem_restRefs_of main_arg5 (by decide) (by decide))).trans (V_main_arg5 m c),
     (rest_eq h.1 c main_arg6 (Pipeline.mem_restRefs_of main_arg6 (by decide) (by decide))).trans (V_main_arg6 m c),
     (rest_eq h.1 c main_arg7 (Pipeline.mem_restRefs_of main_arg7 (by decide) (by decide))).trans (V_main_arg7 m c)⟩, h.2⟩)
    (run_main m g)

end Cert.Kernel.Ends

namespace Cert.KernelIdeal.Body

open Cert.KernelIdeal Cert.KernelIdeal.Gen

variable {m : (ℓ : Loc nD τ sig) → Buf (Elt Ideal) ℓ}

/-- The arguments end as launched. -/
theorem args_eq {r : PUnit × MemSt nD τ sig (Elt Ideal)} (h : Pipeline.RDat.FramePost (cfgs 0) (rdat m) (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  ⟨(rest_eq h c main_arg0 (Pipeline.mem_restRefs_of main_arg0 (by decide) (by decide))).trans (V_main_arg0 m c),
   (rest_eq h c main_arg1 (Pipeline.mem_restRefs_of main_arg1 (by decide) (by decide))).trans (V_main_arg1 m c),
   (rest_eq h c main_arg2 (Pipeline.mem_restRefs_of main_arg2 (by decide) (by decide))).trans (V_main_arg2 m c),
   (rest_eq h c main_arg3 (Pipeline.mem_restRefs_of main_arg3 (by decide) (by decide))).trans (V_main_arg3 m c),
   (rest_eq h c main_arg4 (Pipeline.mem_restRefs_of main_arg4 (by decide) (by decide))).trans (V_main_arg4 m c),
   (rest_eq h c main_arg5 (Pipeline.mem_restRefs_of main_arg5 (by decide) (by decide))).trans (V_main_arg5 m c),
   (rest_eq h c main_arg6 (Pipeline.mem_restRefs_of main_arg6 (by decide) (by decide))).trans (V_main_arg6 m c),
   (rest_eq h c main_arg7 (Pipeline.mem_restRefs_of main_arg7 (by decide) (by decide))).trans (V_main_arg7 m c)⟩

/-- The kernel at the reals with infinities ends with its arguments as launched and every counter at zero. -/
theorem frame : Cert.quiescent_KernelIdeal := fun m g _ =>
  (θ_run _ _ _).mono (fun r h => ⟨fun c => args_eq h.1 c, h.2⟩) (run_main m g)

end Cert.KernelIdeal.Body

namespace Cert.ReferenceIdeal

/-- The reference ends with its arguments as launched; it has no counters. -/
theorem frame : Cert.quiescent_ReferenceIdeal := fun m g _ =>
  (θ_run _ _ _).mono (fun r h => ⟨fun c => (h c).2.2, sem_eq_zero_of_no_sems (by decide) r.2⟩) (Value.run m g)

end Cert.ReferenceIdeal
-- ==== Proof.Value.Formulas.lean ====
module

public import Idealize.ShloMosaic.Lib.Pointwise

/-!
The computation in formulas over the extended reals: the score of one token at one head, the softmax over the tokens,
the projection of the pooled heads, and the layer norm.
-/

@[expose] public section

noncomputable section

open Idealize.ShloMosaic

namespace Pooling

/-- The score of one token `x` at one head: `w · tanh (W x + b)`. -/
def score (W : Fin 256 → Fin 64 → EReal) (b w : Fin 64 → EReal) (x : Fin 256 → EReal) : EReal :=
  ∑ d : Fin 64, w d * Ideal.tanh (∑ k : Fin 256, W k d * x k + b d)

/-- The largest of the scores, from `−∞`. -/
def top (s : Fin 4096 → EReal) : EReal := max ⊥ (Finset.univ.fold max ⊥ s)

/-- Token `t`'s share: the softmax of the scores. -/
def share (s : Fin 4096 → EReal) (t : Fin 4096) : EReal :=
  Ideal.div (Ideal.exp (s t - top s)) (∑ u : Fin 4096, Ideal.exp (s u - top s))

/-- The mean of a row of 256. -/
def mean (y : Fin 256 → EReal) : EReal := Ideal.div (∑ n : Fin 256, y n) (Ideal.ofBits .f32 0x43800000#32)

/-- The row less its mean. -/
def centre (y : Fin 256 → EReal) (n : Fin 256) : EReal := y n - mean y

/-- Layer norm of a row of 256. -/
def layerNorm (y ga be : Fin 256 → EReal) (n : Fin 256) : EReal :=
  centre y n * Ideal.rsqrt (mean (fun k => centre y k * centre y k) + Ideal.ofBits .f32 0x3727C5AC#32) * ga n + be n

end Pooling
-- ==== Proof.Value.Weights.lean ====
module

public import proofs.«01_k».proof.Proof.Value.Formulas
public import Mathlib.Analysis.SpecialFunctions.Trigonometric.DerivHyp

/-!
The softmax does not see a constant taken from every score: the kernel subtracts a bound of the scores, the reference
their largest. Where every score is a real number the two give one weight, and the weighted sum of the tokens may be
divided by the total before or after it is summed.
-/

@[expose] public section

noncomputable section

open Idealize.ShloMosaic

namespace Pooling

/-- An extended real that is a real number. -/
def IsReal (x : EReal) : Prop := ∃ r : ℝ, x = (r : EReal)

theorem coe_sum' {ι : Type*} (s : Finset ι) (g : ι → ℝ) : ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

theorem coe_max' (a b : ℝ) : max (a : EReal) (b : EReal) = ((max a b : ℝ) : EReal) :=
  (EReal.coe_strictMono.monotone.map_max).symm

theorem fin_sum {ι : Type*} (s : Finset ι) {f : ι → EReal} (h : ∀ i, IsReal (f i)) : IsReal (∑ i ∈ s, f i) := by
  choose g hg using h
  exact ⟨∑ i ∈ s, g i, by simp only [hg, coe_sum']⟩

theorem fin_mul {x y : EReal} : IsReal x → IsReal y → IsReal (x * y) := by
  rintro ⟨a, rfl⟩ ⟨b, rfl⟩
  exact ⟨a * b, (EReal.coe_mul a b).symm⟩

theorem fin_tanh (x : EReal) : IsReal (Ideal.tanh x) := by
  induction x using EReal.rec with
  | bot => exact ⟨-1, by rw [EReal.coe_neg, EReal.coe_one]; rfl⟩
  | coe r => exact ⟨Real.tanh r, rfl⟩
  | top => exact ⟨1, rfl⟩

theorem fin_abs {x : EReal} : IsReal x → IsReal (max x (-x)) := by
  rintro ⟨a, rfl⟩
  exact ⟨max a (-a), by rw [← EReal.coe_neg, coe_max']⟩

/-- A score is a real number where the head's row is: the tangent is between `−1` and `1` whatever it is taken of. -/
theorem fin_score (W : Fin 256 → Fin 64 → EReal) (b w : Fin 64 → EReal) (x : Fin 256 → EReal) (hw : ∀ d, IsReal (w d)) :
    IsReal (score W b w x) :=
  fin_sum _ fun d => fin_mul (hw d) (fin_tanh _)

theorem fold_max_coe {ι : Type*} [DecidableEq ι] (f : ι → ℝ) (s : Finset ι) (h : s.Nonempty) :
    IsReal (s.fold max ⊥ fun i => (f i : EReal)) := by
  induction h using Finset.Nonempty.cons_induction with
  | singleton a => exact ⟨f a, by simp⟩
  | cons a s ha hs ih =>
    obtain ⟨r, hr⟩ := ih
    exact ⟨max (f a) r, by rw [Finset.fold_cons, hr, coe_max']⟩

/-- The largest of finitely many reals is a real. -/
theorem fin_top {s : Fin 4096 → EReal} (h : ∀ t, IsReal (s t)) : IsReal (top s) := by
  choose g hg using h
  obtain ⟨r, hr⟩ := fold_max_coe g Finset.univ ⟨0, Finset.mem_univ _⟩
  exact ⟨r, by rw [top, funext hg, hr]; simp⟩

/-- The exponentials of the scores less `m`. -/
def power (s : Fin 4096 → EReal) (m : EReal) (t : Fin 4096) : EReal := Ideal.exp (s t - m)

theorem power_coe (s : Fin 4096 → ℝ) (m : ℝ) (t : Fin 4096) :
    power (fun t => (s t : EReal)) m t = ((Real.exp (s t - m) : ℝ) : EReal) := by
  rw [power, ← EReal.coe_sub]
  rfl

theorem div_coe {a b : ℝ} (hb : b ≠ 0) : Ideal.div (a : EReal) (b : EReal) = ((a / b : ℝ) : EReal) := by
  rw [Ideal.div, if_neg (by exact_mod_cast hb), div_eq_mul_inv, EReal.coe_mul, EReal.coe_inv]

/-- The total of the exponentials, a positive real. -/
def total (s : Fin 4096 → ℝ) (m : ℝ) : ℝ := ∑ t, Real.exp (s t - m)

theorem total_pos (s : Fin 4096 → ℝ) (m : ℝ) : 0 < total s m :=
  Finset.sum_pos (fun _ _ => Real.exp_pos _) ⟨0, Finset.mem_univ _⟩

theorem sum_power (s : Fin 4096 → ℝ) (m : ℝ) :
    ∑ t, power (fun t => (s t : EReal)) m t = ((total s m : ℝ) : EReal) := by
  simp only [power_coe, total, coe_sum']

theorem ratio_shift (s : Fin 4096 → ℝ) (m m' : ℝ) (t : Fin 4096) :
    Real.exp (s t - m) / total s m = Real.exp (s t - m') / total s m' := by
  have e : ∀ u, Real.exp (s u - m) = Real.exp (s u - m') * Real.exp (m' - m) := fun u => by
    rw [← Real.exp_add]; congr 1; ring
  rw [total, e, Finset.sum_congr rfl fun u _ => e u, ← Finset.sum_mul, mul_div_mul_right _ _ (Real.exp_ne_zero _)]
  rfl

/-- The reference's share of a token is the kernel's exponential times the reciprocal of the kernel's total. -/
theorem share_eq {s : Fin 4096 → EReal} {m : EReal} (hs : ∀ t, IsReal (s t)) (hm : IsReal m) (t : Fin 4096) :
    power s m t * Ideal.div 1 (∑ u, power s m u) = share s t := by
  obtain ⟨M, hM⟩ := fin_top hs
  obtain ⟨m, rfl⟩ := hm
  choose g hg using hs
  obtain rfl : s = fun t => (g t : EReal) := funext hg
  have h : share (fun t => (g t : EReal)) t
      = Ideal.div (power (fun t => (g t : EReal)) M t) (∑ u, power (fun t => (g t : EReal)) M u) := by
    rw [share, hM]; rfl
  rw [h, sum_power, sum_power, power_coe, power_coe, div_coe (total_pos _ _).ne', ← ratio_shift g m M,
    show (1 : EReal) = ((1 : ℝ) : EReal) from rfl, div_coe (total_pos _ _).ne', ← EReal.coe_mul, mul_one_div]

theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- Dividing the weighted sum by the total is summing with the shares. -/
theorem pooled_eq {s : Fin 4096 → EReal} {m : EReal} (hs : ∀ t, IsReal (s t)) (hm : IsReal m) (x : Fin 4096 → EReal) :
    (∑ t, power s m t * x t) * Ideal.div 1 (∑ u, power s m u) = ∑ t, share s t * x t := by
  have hr : ∃ c : ℝ, 0 ≤ c ∧ Ideal.div 1 (∑ u, power s m u) = (c : EReal) := by
    obtain ⟨m, rfl⟩ := hm
    choose g hg using hs
    obtain rfl : s = fun t => (g t : EReal) := funext hg
    exact ⟨1 / total g m, (one_div_pos.mpr (total_pos _ _)).le, by
      rw [sum_power, show (1 : EReal) = ((1 : ℝ) : EReal) from rfl, div_coe (total_pos _ _).ne']⟩
  obtain ⟨c, hc, hdiv⟩ := hr
  have hsh : ∀ t, share s t = power s m t * (c : EReal) := fun t => by rw [← share_eq hs hm, hdiv]
  rw [hdiv, sum_mul_coe _ _ hc]
  exact Finset.sum_congr rfl fun t _ => by rw [hsh, mul_right_comm]

end Pooling
-- ==== Proof.Value.Block.lean ====
module

public import proofs.«01_k».proof.Proof.KernelIdeal.Body
public import proofs.«01_k».proof.Proof.Value.Weights

/-!
What one block computes, in formulas: the weights and the contexts of one batch row from its four chunks of tokens,
and one row of the output from the contexts.
-/

@[expose] public section

noncomputable section

open Idealize.ShloMosaic

namespace Pooling

/-- Column `d` of head `h`, among the 256 hidden columns. -/
def col (h : Fin 4) (d : Fin 64) : Fin 256 := ⟨64 * h.val + d.val, by omega⟩

/-- Token `r` of chunk `q`. -/
def tok (q : Fin 4) (r : Fin 1024) : Fin 4096 := ⟨1024 * q.val + r.val, by omega⟩

/-- Feature `k` of head `h`, among the 1024 pooled features. -/
def feat (h : Fin 4) (k : Fin 256) : Fin 1024 := ⟨256 * h.val + k.val, by omega⟩

/-- A sum over `m * n` numbers is a sum over `m` runs of `n`. -/
theorem sum_runs (m n : ℕ) (f : Fin (m * n) → EReal) (g : Fin m → Fin n → Fin (m * n))
    (hg : ∀ a b, (g a b).val = n * a.val + b.val) : ∑ j, f j = ∑ a : Fin m, ∑ b : Fin n, f (g a b) := by
  rw [← Fintype.sum_prod_type']
  refine (Fintype.sum_equiv finProdFinEquiv _ _ fun p => congrArg f (Fin.ext ?_)).symm
  rw [hg]
  simp [finProdFinEquiv, add_comm]

/-- A bound of a head's scores: the sum of the sizes of its row. -/
def bound (w : Fin 4 → Fin 256 → EReal) (h : Fin 4) : EReal := ∑ n, max (w h n) (-w h n)

/-- The row of head `h` laid out over the columns of all heads: its own at its own columns, zero elsewhere. -/
def spread (w : Fin 4 → Fin 64 → EReal) (h : Fin 4) (n : Fin 256) : EReal :=
  if n.val / 64 = h.val then w h ⟨n.val % 64, by omega⟩ else 0

theorem spread_col (w : Fin 4 → Fin 64 → EReal) (h h' : Fin 4) (d : Fin 64) :
    spread w h (col h' d) = if h' = h then w h d else 0 := by
  have e : (col h' d).val / 64 = h'.val := by simp only [col]; omega
  have e' : (⟨(col h' d).val % 64, by omega⟩ : Fin 64) = d := Fin.ext (by simp only [col]; omega)
  simp only [spread, e, e', Fin.ext_iff]

theorem real_bound {w : Fin 4 → Fin 64 → EReal} (hw : ∀ h d, IsReal (w h d)) (h : Fin 4) : IsReal (bound (spread w) h) :=
  fin_sum _ fun n => fin_abs (by
    unfold spread
    split
    · exact hw _ _
    · exact ⟨0, rfl⟩)

/-- A product with the spread row meets only the head's own columns. -/
theorem sum_spread (w : Fin 4 → Fin 64 → EReal) (h : Fin 4) (f : Fin 256 → EReal) :
    ∑ n, spread w h n * f n = ∑ d, w h d * f (col h d) := by
  rw [sum_runs 4 64 (fun n => spread w h n * f n) col fun _ _ => rfl, Finset.sum_eq_single h]
  · simp only [spread_col, if_true]
  · intro h' _ hh
    simp only [spread_col, if_neg hh, zero_mul, Finset.sum_const_zero]
  · simp

end Pooling

namespace Cert.KernelIdeal.Body

open Cert.KernelIdeal Cert.KernelIdeal.Gen Pooling

/-- A load reads the array at the offset index. -/
theorem ld_apply {s : Shape} (off size : Fin s.rank → Nat) (inb : ∀ a, off a + size a ≤ s.size a) (X : s.Idx → Elt Ideal .f32)
    (j : (Rect.unit (s := s) off size inb).shape.Idx) (i : s.Idx) (h : ∀ a, off a + (j a).val = (i a).val) :
    ld (Rect.unit (s := s) off size inb) X j = X i :=
  congrArg X (funext fun a => Fin.ext (by
    rw [← h a]
    show off a + 1 * (j a).val = _
    rw [Nat.one_mul]))

theorem all256_eq (w : S256x256.Idx → Elt Ideal .f32) : all256 w = w :=
  funext fun j => ld_apply _ _ _ _ _ _ (by intro a; fin_cases a <;> exact Nat.zero_add _)

theorem all1_eq (w : S1x256.Idx → Elt Ideal .f32) : all1 w = w :=
  funext fun j => ld_apply _ _ _ _ _ _ (by intro a; fin_cases a <;> exact Nat.zero_add _)

theorem all4_eq (w : S4x256.Idx → Elt Ideal .f32) : all4 w = w :=
  funext fun j => ld_apply _ _ _ _ _ _ (by intro a; fin_cases a <;> exact Nat.zero_add _)

theorem xSlab_apply (g : Fin 2) (X : S1x2x1x1024x256.Idx → Elt Ideal .f32) (r : Fin 1024) (k : Fin 256) :
    xSlab g X (ix5 (0 : Fin 1) (0 : Fin 1) (0 : Fin 1) r k) = X (ix5 (0 : Fin 1) g (0 : Fin 1) r k) :=
  ld_apply _ _ _ _ _ _ (by intro a; fin_cases a <;> first | exact Nat.zero_add _ | exact Nat.add_zero _)

theorem cSlab_apply (g : Fin 2) (s : S2x4x256.Idx → Elt Ideal .f32) (h : Fin 4) (k : Fin 256) :
    cSlab g s (ix3 (0 : Fin 1) h k) = s (ix3 g h k) :=
  ld_apply _ _ _ _ _ _ (by intro a; fin_cases a <;> first | exact Nat.zero_add _ | exact Nat.add_zero _)

theorem oSlab_apply (h : Fin 4) (wo : S4x256x256.Idx → Elt Ideal .f32) (k n : Fin 256) :
    oSlab h wo (ix3 (0 : Fin 1) k n) = wo (ix3 h k n) :=
  ld_apply _ _ _ _ _ _ (by intro a; fin_cases a <;> first | exact Nat.zero_add _ | exact Nat.add_zero _)

/-- The first layer's weights, its bias and the spread rows, as the blocks hold them. -/
structure Layer (w1 : S256x256.Idx → EReal) (b1 : S1x256.Idx → EReal) (st : S4x256.Idx → EReal)
    (W : Fin 4 → Fin 256 → Fin 64 → EReal) (b w : Fin 4 → Fin 64 → EReal) : Prop where
  w1_at : ∀ k h d, w1 (ix2 k (col h d)) = W h k d
  b1_at : ∀ h d, b1 (ix2 (0 : Fin 1) (col h d)) = b h d
  st_at : ∀ h n, st (ix2 h n) = spread w h n

variable {w1 : S256x256.Idx → EReal} {b1 : S1x256.Idx → EReal} {st : S4x256.Idx → EReal}
  {W : Fin 4 → Fin 256 → Fin 64 → EReal} {b w : Fin 4 → Fin 64 → EReal}

/-- The powers of one chunk. -/
theorem chunk_apply (L : Layer w1 b1 st W b w) (X : S1x1x1x1024x256.Idx → EReal) (x : Fin 4096 → Fin 256 → EReal) (q : Fin 4)
    (hX : ∀ r k, X (ix5 (0 : Fin 1) (0 : Fin 1) (0 : Fin 1) r k) = x (tok q r) k) (h : Fin 4) (r : Fin 1024) :
    k0_pay21 (F := Ideal) w1 b1 st X (ix2 h r)
      = power (fun t => score (W h) (b h) (w h) (x t)) (bound (spread w) h) (tok q r) := by
  have e : k0_pay21 (F := Ideal) w1 b1 st X (ix2 h r)
      = Ideal.exp ((∑ n, st (ix2 h n) * Ideal.tanh (∑ k, X (ix5 (0 : Fin 1) (0 : Fin 1) (0 : Fin 1) r k) * w1 (ix2 k n) + b1 (ix2 (0 : Fin 1) n)))
          - ∑ n, max (st (ix2 h n)) (-st (ix2 h n))) := by
    pointwise [k0_pay21, k0_pay20, k0_pay12, k0_pay13, k0_pay14, k0_pay15, k0_pay16]
    rfl
  rw [e]
  simp only [L.st_at, sum_spread, L.w1_at, L.b1_at, hX]
  simp only [power, score, bound, mul_comm]

/-- The chunk a token lies in. -/
theorem chain_eq (P : Fin 4096 → EReal) (f : Fin 4 → Fin 1024 → EReal) (hf : ∀ q r, f q r = P (tok q r)) (t : Fin 4096) :
    (if h₁ : t.val < 1024 then f 0 ⟨t.val, h₁⟩
      else if h₂ : t.val - 1024 < 1024 then f 1 ⟨t.val - 1024, h₂⟩
      else if h₃ : t.val - 1024 - 1024 < 1024 then f 2 ⟨t.val - 1024 - 1024, h₃⟩
      else f 3 ⟨t.val - 1024 - 1024 - 1024, by omega⟩) = P t := by
  have e : ∀ q r, (tok q r).val = t.val → f q r = P t := fun q r h => (hf q r).trans (congrArg P (Fin.ext h))
  split_ifs with h₁ h₂ h₃
  · exact e 0 _ (show 1024 * 0 + t.val = t.val by omega)
  · exact e 1 _ (show 1024 * 1 + (t.val - 1024) = t.val by omega)
  · exact e 2 _ (show 1024 * 2 + (t.val - 1024 - 1024) = t.val by omega)
  · exact e 3 _ (show 1024 * 3 + (t.val - 1024 - 1024 - 1024) = t.val by omega)

variable {X₁ X₂ X₃ X₄ : S1x1x1x1024x256.Idx → EReal} {x : Fin 4096 → Fin 256 → EReal}

/-- The weights of one batch row. -/
theorem wRow_apply (L : Layer w1 b1 st W b w) (hw : ∀ h d, IsReal (w h d))
    (h₁ : ∀ r k, X₁ (ix5 (0 : Fin 1) (0 : Fin 1) (0 : Fin 1) r k) = x (tok 0 r) k)
    (h₂ : ∀ r k, X₂ (ix5 (0 : Fin 1) (0 : Fin 1) (0 : Fin 1) r k) = x (tok 1 r) k)
    (h₃ : ∀ r k, X₃ (ix5 (0 : Fin 1) (0 : Fin 1) (0 : Fin 1) r k) = x (tok 2 r) k)
    (h₄ : ∀ r k, X₄ (ix5 (0 : Fin 1) (0 : Fin 1) (0 : Fin 1) r k) = x (tok 3 r) k) (h : Fin 4) (t : Fin 4096) :
    wRow (F := Ideal) w1 b1 st X₁ X₂ X₃ X₄ (ix3 (0 : Fin 1) h t) = share (fun t => score (W h) (b h) (w h) (x t)) t := by
  rw [← share_eq (fun t => fin_score _ _ _ _ (hw h)) (real_bound hw h)]
  have hc := chain_eq (power (fun t => score (W h) (b h) (w h) (x t)) (bound (spread w) h))
    ![fun r => k0_pay21 (F := Ideal) w1 b1 st X₁ (ix2 h r), fun r => k0_pay21 (F := Ideal) w1 b1 st X₂ (ix2 h r),
      fun r => k0_pay21 (F := Ideal) w1 b1 st X₃ (ix2 h r), fun r => k0_pay21 (F := Ideal) w1 b1 st X₄ (ix2 h r)]
    (fun q r => by
      fin_cases q
      · exact chunk_apply L X₁ x 0 h₁ h r
      · exact chunk_apply L X₂ x 1 h₂ h r
      · exact chunk_apply L X₃ x 2 h₃ h r
      · exact chunk_apply L X₄ x 3 h₄ h r)
  pointwise [wRow, k0_pay3, k0_pay1, k0_pay2]
  exact congrArg₂ (· * ·) (hc t) (congrArg (Ideal.div 1) (Finset.sum_congr rfl fun u _ => hc u))

/-- The contexts of one batch row. -/
theorem cRow_apply (L : Layer w1 b1 st W b w) (hw : ∀ h d, IsReal (w h d))
    (h₁ : ∀ r k, X₁ (ix5 (0 : Fin 1) (0 : Fin 1) (0 : Fin 1) r k) = x (tok 0 r) k)
    (h₂ : ∀ r k, X₂ (ix5 (0 : Fin 1) (0 : Fin 1) (0 : Fin 1) r k) = x (tok 1 r) k)
    (h₃ : ∀ r k, X₃ (ix5 (0 : Fin 1) (0 : Fin 1) (0 : Fin 1) r k) = x (tok 2 r) k)
    (h₄ : ∀ r k, X₄ (ix5 (0 : Fin 1) (0 : Fin 1) (0 : Fin 1) r k) = x (tok 3 r) k) (h : Fin 4) (k : Fin 256) :
    cRow (F := Ideal) w1 b1 st X₁ X₂ X₃ X₄ (ix3 (0 : Fin 1) h k)
      = ∑ t, share (fun t => score (W h) (b h) (w h) (x t)) t * x t k := by
  rw [← pooled_eq (fun t => fin_score _ _ _ _ (hw h)) (real_bound hw h) fun t => x t k]
  have hc := chain_eq (power (fun t => score (W h) (b h) (w h) (x t)) (bound (spread w) h))
    ![fun r => k0_pay21 (F := Ideal) w1 b1 st X₁ (ix2 h r), fun r => k0_pay21 (F := Ideal) w1 b1 st X₂ (ix2 h r),
      fun r => k0_pay21 (F := Ideal) w1 b1 st X₃ (ix2 h r), fun r => k0_pay21 (F := Ideal) w1 b1 st X₄ (ix2 h r)]
    (fun q r => by
      fin_cases q
      · exact chunk_apply L X₁ x 0 h₁ h r
      · exact chunk_apply L X₂ x 1 h₂ h r
      · exact chunk_apply L X₃ x 2 h₃ h r
      · exact chunk_apply L X₄ x 3 h₄ h r)
  pointwise [cRow, k0_pay4, k0_pay1, k0_pay2, k0_pay22, k0_pay20, k0_pay37]
  refine congrArg₂ (· * ·) ?_ (congrArg (Ideal.div 1) (Finset.sum_congr rfl fun u _ => hc u))
  rw [sum_runs 4 1024 (fun t => power (fun t => score (W h) (b h) (w h) (x t)) (bound (spread w) h) t * x t k) tok fun _ _ => rfl,
    Fin.sum_univ_four, add_assoc (_ + _)]
  simp only [chunk_apply L X₁ x 0 h₁, chunk_apply L X₂ x 1 h₂, chunk_apply L X₃ x 2 h₃, chunk_apply L X₄ x 3 h₄, h₁, h₂, h₃, h₄]

/-- One row of the output. -/
theorem oRow_apply {ctx : S1x4x256.Idx → EReal} {wo : S4x256x256.Idx → EReal} {bo ga be : S1x256.Idx → EReal}
    (P : Fin 4 → Fin 256 → EReal) (Wo : Fin 256 → Fin 1024 → EReal) (o : Fin 256 → EReal)
    (hc : ∀ h k, ctx (ix3 (0 : Fin 1) h k) = P h k) (hwo : ∀ h k n, wo (ix3 h k n) = Wo n (feat h k))
    (hbo : ∀ n, bo (ix2 (0 : Fin 1) n) = o n) (n : Fin 256) :
    oRow (F := Ideal) ctx wo bo ga be (ix3 (0 : Fin 1) (0 : Fin 1) n)
      = layerNorm (fun n => (∑ j : Fin 1024, P ⟨j.val / 256, by omega⟩ ⟨j.val % 256, by omega⟩ * Wo n j) + o n)
          (fun n => ga (ix2 (0 : Fin 1) n)) (fun n => be (ix2 (0 : Fin 1) n)) n := by
  have hy : ∀ n, (∑ j : Fin 1024, P ⟨j.val / 256, by omega⟩ ⟨j.val % 256, by omega⟩ * Wo n j) + o n
      = o n + ∑ k, P 0 k * Wo n (feat 0 k) + ∑ k, P 1 k * Wo n (feat 1 k) + ∑ k, P 2 k * Wo n (feat 2 k)
          + ∑ k, P 3 k * Wo n (feat 3 k) := fun n => by
    have e : ∀ h k, (⟨(feat h k).val / 256, by omega⟩ : Fin 4) = h := fun h k => Fin.ext (by simp only [feat]; omega)
    have e' : ∀ h k, (⟨(feat h k).val % 256, by omega⟩ : Fin 256) = k := fun h k => Fin.ext (by simp only [feat]; omega)
    rw [sum_runs 4 256 (fun j : Fin 1024 => P ⟨j.val / 256, by omega⟩ ⟨j.val % 256, by omega⟩ * Wo n j) feat fun _ _ => rfl]
    simp only [e, e', Fin.sum_univ_four]
    rw [add_comm]
    simp only [add_assoc]
  have hp : ∀ w₀ w₁ w₂ w₃ : S1x256x256.Idx → EReal, (∀ k n, w₀ (ix3 (0 : Fin 1) k n) = Wo n (feat 0 k)) →
      (∀ k n, w₁ (ix3 (0 : Fin 1) k n) = Wo n (feat 1 k)) → (∀ k n, w₂ (ix3 (0 : Fin 1) k n) = Wo n (feat 2 k)) →
      (∀ k n, w₃ (ix3 (0 : Fin 1) k n) = Wo n (feat 3 k)) → ∀ n, k0_pay5 (F := Ideal) ctx bo w₀ w₁ w₂ w₃ (ix2 (0 : Fin 1) n)
        = centre (fun n => (∑ j : Fin 1024, P ⟨j.val / 256, by omega⟩ ⟨j.val % 256, by omega⟩ * Wo n j) + o n) n := by
    intro w₀ w₁ w₂ w₃ e₀ e₁ e₂ e₃ n
    simp only [hy]
    pointwise [k0_pay5]
    simp only [e₀, e₁, e₂, e₃, hc, hbo]
    rfl
  have e : ∀ (h : Fin 4) k n, oSlab (F := Ideal) h wo (ix3 (0 : Fin 1) k n) = Wo n (feat h k) := fun h k n => (oSlab_apply h wo k n).trans (hwo h k n)
  have h5 : ∀ n, k0_pay5 (F := Ideal) ctx bo (oSlab (F := Ideal) 0 wo) (oSlab (F := Ideal) 1 wo) (oSlab (F := Ideal) 2 wo) (oSlab (F := Ideal) 3 wo) (ix2 (0 : Fin 1) n)
      = centre (fun n => (∑ j : Fin 1024, P ⟨j.val / 256, by omega⟩ ⟨j.val % 256, by omega⟩ * Wo n j) + o n) n :=
    hp (oSlab (F := Ideal) 0 wo) (oSlab (F := Ideal) 1 wo) (oSlab (F := Ideal) 2 wo) (oSlab (F := Ideal) 3 wo) (e 0) (e 1) (e 2) (e 3)
  have h6 : ∀ n, k0_pay6 (F := Ideal) ctx bo (oSlab 0 wo) (oSlab 1 wo) (oSlab 2 wo) (oSlab 3 wo) (ix2 (0 : Fin 1) n)
      = k0_pay5 (F := Ideal) ctx bo (oSlab 0 wo) (oSlab 1 wo) (oSlab 2 wo) (oSlab 3 wo) (ix2 (0 : Fin 1) n)
        * k0_pay5 (F := Ideal) ctx bo (oSlab 0 wo) (oSlab 1 wo) (oSlab 2 wo) (oSlab 3 wo) (ix2 (0 : Fin 1) n) := fun n => by
    pointwise [k0_pay6]
  have h7 : ∀ (u v ga be : S1x256.Idx → EReal), k0_pay7 (F := Ideal) u v ga be (ix3 (0 : Fin 1) (0 : Fin 1) n)
      = u (ix2 (0 : Fin 1) n) * Ideal.rsqrt (mean (fun k => v (ix2 (0 : Fin 1) k)) + Ideal.ofBits .f32 0x3727C5AC#32) * ga (ix2 (0 : Fin 1) n)
        + be (ix2 (0 : Fin 1) n) := fun u v ga be => by
    pointwise [k0_pay7, mean]
  rw [oRow, all1_eq, all1_eq, all1_eq, h7, h5, layerNorm]
  simp only [h6, h5]

end Cert.KernelIdeal.Body
-- ==== Proof.Value.Host.lean ====
module

public import proofs.«01_k».proof.Proof.Value.Block

/-!
What the host's operations hand to the call, at one index.
-/

@[expose] public section

noncomputable section

open Idealize.ShloMosaic Idealize.ShloMosaic.TcCoe Idealize.SL.Sem Idealize.ShloMosaic.StableHlo

namespace Cert.KernelIdeal.Body

open Cert.KernelIdeal Cert.KernelIdeal.Gen Pooling

variable (m : (ℓ : Loc nD τ sig) → Buf (Elt Ideal) ℓ) (c : Dev nD)

/-- The argument arrays, as functions of their coordinates. -/
def inX (b : Fin 64) (t : Fin 4096) (k : Fin 256) : EReal := m ((c : Thread nD τ).loc main_arg0) (ix3 b t k)
def inW (h : Fin 4) (k : Fin 256) (d : Fin 64) : EReal := m ((c : Thread nD τ).loc main_arg1) (ix3 h k d)
def inB (h : Fin 4) (d : Fin 64) : EReal := m ((c : Thread nD τ).loc main_arg2) (ix2 h d)
def inV (h : Fin 4) (d : Fin 64) : EReal := m ((c : Thread nD τ).loc main_arg3) (ix2 h d)
def inWo (n : Fin 256) (j : Fin 1024) : EReal := m ((c : Thread nD τ).loc main_arg4) (ix2 n j)
def inBo (n : Fin 256) : EReal := m ((c : Thread nD τ).loc main_arg5) (ix1 n)
def inGa (n : Fin 256) : EReal := m ((c : Thread nD τ).loc main_arg6) (ix1 n)
def inBe (n : Fin 256) : EReal := m ((c : Thread nD τ).loc main_arg7) (ix1 n)

theorem host_x (p : Fin 32) (g : Fin 2) (q : Fin 4) (r : Fin 1024) (k : Fin 256) :
    (V m c main_v17 : S32x2x4x1024x256.Idx → EReal) (ix5 p g q r k) = inX m c ⟨2 * p.val + g.val, by omega⟩ (tok q r) k := by
  have e : (V m c main_v17 : S32x2x4x1024x256.Idx → EReal)
      = shapeCast S32x2x4x1024x256 (m ((c : Thread nD τ).loc main_arg0) : S64x4096x256.Idx → EReal) shapeCasts_S64x4096x256_S32x2x4x1024x256 := by
    unfold V
    after_results_simp
    rfl
  rw [e]
  refine shapeCast_apply _ _ _ (ix3 (⟨2 * p.val + g.val, by omega⟩ : Fin 64) (tok q r) k) ?_
  simp [Shape.rowMajor_val_five, Shape.rowMajor_val_three, tok]
  omega

theorem host_w1 (k : Fin 256) (h : Fin 4) (d : Fin 64) :
    (V m c main_v1 : S256x256.Idx → EReal) (ix2 k (col h d)) = inW m c h k d := by
  have e : (V m c main_v1 : S256x256.Idx → EReal)
      = shapeCast S256x256 (transpose S256x4x64 [1, 0, 2] (m ((c : Thread nD τ).loc main_arg1) : S4x256x64.Idx → EReal) transposes_S4x256x64_S256x4x64_1_0_2) shapeCasts_S256x4x64_S256x256 := by
    unfold V
    after_results_simp
    rfl
  rw [e]
  refine (shapeCast_apply _ _ _ (ix3 k h d) ?_).trans ?_
  · simp [Shape.rowMajor_val_two, Shape.rowMajor_val_three, col]
    omega
  · pointwise [inW]

theorem host_b1 (h : Fin 4) (d : Fin 64) :
    (V m c main_v2 : S1x256.Idx → EReal) (ix2 (0 : Fin 1) (col h d)) = inB m c h d := by
  have e : (V m c main_v2 : S1x256.Idx → EReal)
      = shapeCast S1x256 (m ((c : Thread nD τ).loc main_arg2) : S4x64.Idx → EReal) shapeCasts_S4x64_S1x256 := by
    unfold V
    after_results_simp
    rfl
  rw [e]
  refine shapeCast_apply _ _ _ (ix2 h d) ?_
  simp [Shape.rowMajor_val_two, col]
  omega

theorem host_st (h : Fin 4) (n : Fin 256) :
    (V m c main_v14 : S4x256.Idx → EReal) (ix2 h n) = spread (inV m c) h n := by
  have e : (V m c main_v14 : S4x256.Idx → EReal)
      = shapeCast S4x256 (mulf (F := Ideal) (φ := .f32)
          (broadcastInDim S4x4x64 ![0, 1, 2] bcast_S4x4x1_S4x4x64_0_1_2 (broadcastInDim S4x4x1 ![0, 1] bcast_S4x4_S4x4x1_0_1
            (uitofp .f32 (cmpi .eq (addi (iotaInDim S4x4 32 0) (broadcastInDim S4x4 ![] bcast_S_S4x4 (constantI S_ 32 0#32))) (iotaInDim S4x4 32 1)))))
          (broadcastInDim S4x4x64 ![0, 1, 2] bcast_S1x4x64_S4x4x64_0_1_2 (broadcastInDim S1x4x64 ![1, 2] bcast_S4x64_S1x4x64_1_2
            (m ((c : Thread nD τ).loc main_arg3) : S4x64.Idx → EReal)))) shapeCasts_S4x4x64_S4x256 := by
    unfold V
    after_results_simp
    rfl
  rw [e]
  pointwise [spread, inV]
  have key : ∀ a b : Fin 4, (FloatOps.uitofp (F := Ideal) .f32 (IntOp.cmpi CmpIPredicate.eq (IntOp.addi (BitVec.ofNat 32 a.val) 0#32) (BitVec.ofNat 32 b.val)) : EReal)
      = if b.val = a.val then 1 else 0 := by
    intro a b
    fin_cases a <;> fin_cases b <;> simp [IntOp.cmpi, IntOp.addi, FloatOps.uitofp]
  rw [key h ⟨n.val / 64, by omega⟩]
  split
  · rename_i h'
    rw [one_mul]
    exact congrArg _ (congrArg (ix2 · _) (Fin.ext h'))
  · exact zero_mul (_ : EReal)

theorem host_wo (h : Fin 4) (k n : Fin 256) :
    (V m c main_v16 : S4x256x256.Idx → EReal) (ix3 h k n) = inWo m c n (feat h k) := by
  have e : (V m c main_v16 : S4x256x256.Idx → EReal)
      = transpose S4x256x256 [1, 2, 0] (shapeCast S256x4x256 (m ((c : Thread nD τ).loc main_arg4) : S256x1024.Idx → EReal) shapeCasts_S256x1024_S256x4x256) transposes_S256x4x256_S4x256x256_1_2_0 := by
    unfold V
    after_results_simp
    rfl
  rw [e]
  pointwise [inWo, feat]
  exact congrArg _ (congrArg (ix2 n) (Fin.ext (by simp only []; omega)))

theorem host_bo (n : Fin 256) : (V m c main_v18 : S1x256.Idx → EReal) (ix2 (0 : Fin 1) n) = inBo m c n := by
  have e : (V m c main_v18 : S1x256.Idx → EReal) = shapeCast S1x256 (m ((c : Thread nD τ).loc main_arg5) : S256.Idx → EReal) shapeCasts_S256_S1x256 := by
    unfold V
    after_results_simp
    rfl
  rw [e]
  pointwise [inBo]

theorem host_ga (n : Fin 256) : (V m c main_v19 : S1x256.Idx → EReal) (ix2 (0 : Fin 1) n) = inGa m c n := by
  have e : (V m c main_v19 : S1x256.Idx → EReal) = shapeCast S1x256 (m ((c : Thread nD τ).loc main_arg6) : S256.Idx → EReal) shapeCasts_S256_S1x256 := by
    unfold V
    after_results_simp
    rfl
  rw [e]
  pointwise [inGa]

theorem host_be (n : Fin 256) : (V m c main_v20 : S1x256.Idx → EReal) (ix2 (0 : Fin 1) n) = inBe m c n := by
  have e : (V m c main_v20 : S1x256.Idx → EReal) = shapeCast S1x256 (m ((c : Thread nD τ).loc main_arg7) : S256.Idx → EReal) shapeCasts_S256_S1x256 := by
    unfold V
    after_results_simp
    rfl
  rw [e]
  pointwise [inBe]

end Cert.KernelIdeal.Body
-- ==== Proof.Value.Points.lean ====
module

public import proofs.«01_k».proof.Proof.KernelIdeal.Data
public import proofs.«01_k».proof.Proof.Value.Host
public import Idealize.ShloMosaic.Lib.Pipeline.ValueKit.Geometry

/-!
What each grid point reads and computes, in the argument arrays: point `t` works on the pair of batch rows
`min t 31`.
-/

@[expose] public section

noncomputable section

open Idealize.ShloMosaic Idealize.ShloMosaic.TcCoe Idealize.SL.Sem

namespace Cert.KernelIdeal.Body

open Cert.KernelIdeal Cert.KernelIdeal.Gen Pooling

variable (m : (ℓ : Loc nD τ sig) → Buf (Elt Ideal) ℓ) (c : Dev nD)

/-- The pair of batch rows point `t` works on. -/
def pair (t : Fin cfg0.N) : Fin 32 := ⟨min t.val 31, by omega⟩

/-- Batch row `g` of pair `p`. -/
def batch (p : Fin 32) (g : Fin 2) : Fin 64 := ⟨2 * p.val + g.val, by omega⟩

theorem index_0 : ∀ (t : Fin grid0.N) (a : Fin 5), win0_0.index t a = (![min t.val 31, 0, 0, 0, 0] : Fin 5 → Nat) a := by decide +kernel
theorem index_1 : ∀ (t : Fin grid0.N) (a : Fin 5), win0_1.index t a = (![min t.val 31, 0, 1, 0, 0] : Fin 5 → Nat) a := by decide +kernel
theorem index_2 : ∀ (t : Fin grid0.N) (a : Fin 5), win0_2.index t a = (![min t.val 31, 0, 2, 0, 0] : Fin 5 → Nat) a := by decide +kernel
theorem index_3 : ∀ (t : Fin grid0.N) (a : Fin 5), win0_3.index t a = (![min t.val 31, 0, 3, 0, 0] : Fin 5 → Nat) a := by decide +kernel
theorem index_12 : ∀ (t : Fin grid0.N) (a : Fin 3), win0_12.index t a = (![min t.val 31, 0, 0] : Fin 3 → Nat) a := by decide +kernel
theorem index_4 : ∀ (t : Fin grid0.N) (a : Fin 2), win0_4.index t a = 0 := by decide +kernel
theorem index_5 : ∀ (t : Fin grid0.N) (a : Fin 2), win0_5.index t a = 0 := by decide +kernel
theorem index_6 : ∀ (t : Fin grid0.N) (a : Fin 2), win0_6.index t a = 0 := by decide +kernel
theorem index_7 : ∀ (t : Fin grid0.N) (a : Fin 3), win0_7.index t a = 0 := by decide +kernel
theorem index_8 : ∀ (t : Fin grid0.N) (a : Fin 2), win0_8.index t a = 0 := by decide +kernel
theorem index_9 : ∀ (t : Fin grid0.N) (a : Fin 2), win0_9.index t a = 0 := by decide +kernel
theorem index_10 : ∀ (t : Fin grid0.N) (a : Fin 2), win0_10.index t a = 0 := by decide +kernel

/-- Where a block of the batch lies in the array of batches. -/
theorem x_place {f : Fin 5 → Nat} {p : Fin 32} {q : Fin 4} {g : Fin 2} {r : Fin 1024} {k : Fin 256} {e : S32x2x4x1024x256.Idx}
    (hf : ∀ a, f a = (![p.val, 0, q.val, 0, 0] : Fin 5 → Nat) a)
    (he : ∀ a, (e a).val = f a * S1x2x1x1024x256.size a
      + 1 * ((ix5 (0 : Fin 1) g (0 : Fin 1) r k : S1x2x1x1024x256.Idx) a).val) : e = ix5 p g q r k := by
  refine funext fun a => Fin.ext ((he a).trans ?_)
  rw [hf a]
  match a with
  | ⟨0, _⟩ => show p.val * 1 + 1 * 0 = p.val; omega
  | ⟨1, _⟩ => show 0 * 2 + 1 * g.val = g.val; omega
  | ⟨2, _⟩ => show q.val * 1 + 1 * 0 = q.val; omega
  | ⟨3, _⟩ => show 0 * 1024 + 1 * r.val = r.val; omega
  | ⟨4, _⟩ => show 0 * 256 + 1 * k.val = k.val; omega

/-- A block at the origin lies where its own coordinates say. -/
theorem origin {n : Nat} {size size' f : Fin n → Nat} {e : (a : Fin n) → Fin (size a)} {j : (a : Fin n) → Fin (size a)}
    (hf : ∀ a, f a = 0) (he : ∀ a, (e a).val = f a * size' a + 1 * (j a).val) : e = j :=
  funext fun a => Fin.ext (by rw [he a, hf a]; omega)

theorem iblk_0 (t : Fin cfg0.N) (g : Fin 2) (r : Fin 1024) (k : Fin 256) :
    (iblk m c 0 t : S1x2x1x1024x256.Idx → EReal) (ix5 (0 : Fin 1) g (0 : Fin 1) r k) = inX m c (batch (pair t) g) (tok 0 r) k :=
  (congrArg (V m c main_v17 : S32x2x4x1024x256.Idx → EReal) (x_place (p := pair t) (q := 0) (index_0 t) fun _ => rfl)).trans
    (host_x m c (pair t) g 0 r k)

theorem iblk_1 (t : Fin cfg0.N) (g : Fin 2) (r : Fin 1024) (k : Fin 256) :
    (iblk m c 1 t : S1x2x1x1024x256.Idx → EReal) (ix5 (0 : Fin 1) g (0 : Fin 1) r k) = inX m c (batch (pair t) g) (tok 1 r) k :=
  (congrArg (V m c main_v17 : S32x2x4x1024x256.Idx → EReal) (x_place (p := pair t) (q := 1) (index_1 t) fun _ => rfl)).trans
    (host_x m c (pair t) g 1 r k)

theorem iblk_2 (t : Fin cfg0.N) (g : Fin 2) (r : Fin 1024) (k : Fin 256) :
    (iblk m c 2 t : S1x2x1x1024x256.Idx → EReal) (ix5 (0 : Fin 1) g (0 : Fin 1) r k) = inX m c (batch (pair t) g) (tok 2 r) k :=
  (congrArg (V m c main_v17 : S32x2x4x1024x256.Idx → EReal) (x_place (p := pair t) (q := 2) (index_2 t) fun _ => rfl)).trans
    (host_x m c (pair t) g 2 r k)

theorem iblk_3 (t : Fin cfg0.N) (g : Fin 2) (r : Fin 1024) (k : Fin 256) :
    (iblk m c 3 t : S1x2x1x1024x256.Idx → EReal) (ix5 (0 : Fin 1) g (0 : Fin 1) r k) = inX m c (batch (pair t) g) (tok 3 r) k :=
  (congrArg (V m c main_v17 : S32x2x4x1024x256.Idx → EReal) (x_place (p := pair t) (q := 3) (index_3 t) fun _ => rfl)).trans
    (host_x m c (pair t) g 3 r k)

theorem iblk_4 (t : Fin cfg0.N) : (iblk m c 4 t : S256x256.Idx → EReal) = V m c main_v1 :=
  funext fun _ => congrArg (V m c main_v1 : S256x256.Idx → EReal) (origin (size' := S256x256.size) (index_4 t) fun _ => rfl)

theorem iblk_5 (t : Fin cfg0.N) : (iblk m c 5 t : S1x256.Idx → EReal) = V m c main_v2 :=
  funext fun _ => congrArg (V m c main_v2 : S1x256.Idx → EReal) (origin (size' := S1x256.size) (index_5 t) fun _ => rfl)

theorem iblk_6 (t : Fin cfg0.N) : (iblk m c 6 t : S4x256.Idx → EReal) = V m c main_v14 :=
  funext fun _ => congrArg (V m c main_v14 : S4x256.Idx → EReal) (origin (size' := S4x256.size) (index_6 t) fun _ => rfl)

theorem iblk_7 (t : Fin cfg0.N) : (iblk m c 7 t : S4x256x256.Idx → EReal) = V m c main_v16 :=
  funext fun _ => congrArg (V m c main_v16 : S4x256x256.Idx → EReal) (origin (size' := S4x256x256.size) (index_7 t) fun _ => rfl)

theorem iblk_8 (t : Fin cfg0.N) : (iblk m c 8 t : S1x256.Idx → EReal) = V m c main_v18 :=
  funext fun _ => congrArg (V m c main_v18 : S1x256.Idx → EReal) (origin (size' := S1x256.size) (index_8 t) fun _ => rfl)

theorem iblk_9 (t : Fin cfg0.N) : (iblk m c 9 t : S1x256.Idx → EReal) = V m c main_v19 :=
  funext fun _ => congrArg (V m c main_v19 : S1x256.Idx → EReal) (origin (size' := S1x256.size) (index_9 t) fun _ => rfl)

theorem iblk_10 (t : Fin cfg0.N) : (iblk m c 10 t : S1x256.Idx → EReal) = V m c main_v20 :=
  funext fun _ => congrArg (V m c main_v20 : S1x256.Idx → EReal) (origin (size' := S1x256.size) (index_10 t) fun _ => rfl)
/-- The transposed weights, the bias and the spread query vectors, as a layer of the arguments. -/
theorem layer (t : Fin cfg0.N) :
    Layer (all256 (F := Ideal) (iblk m c 4 t)) (all1 (F := Ideal) (iblk m c 5 t)) (all4 (F := Ideal) (iblk m c 6 t))
      (inW m c) (inB m c) (inV m c) where
  w1_at k h d := by rw [all256_eq, iblk_4, host_w1]
  b1_at h d := by rw [all1_eq, iblk_5, host_b1]
  st_at h n := by rw [all4_eq, iblk_6, host_st]

/-- The score of token `t` of batch row `b` under head `h`. -/
def inScore (b : Fin 64) (h : Fin 4) (t : Fin 4096) : EReal := score (inW m c h) (inB m c h) (inV m c h) (inX m c b t)

variable (hw : ∀ h d, IsReal (inV m c h d))
include hw

/-- The block of weights one point leaves: the softmax weights of its two batch rows. -/
theorem wAt_apply (t : Fin cfg0.N) (g : Fin 2) (h : Fin 4) (u : Fin 4096) :
    wAt (F := Ideal) m c t (ix3 g h u) = share (inScore m c (batch (pair t) g) h) u :=
  wRow_apply (x := inX m c (batch (pair t) g)) (layer m c t) hw
    (fun r k => (xSlab_apply g _ r k).trans (iblk_0 m c t g r k)) (fun r k => (xSlab_apply g _ r k).trans (iblk_1 m c t g r k))
    (fun r k => (xSlab_apply g _ r k).trans (iblk_2 m c t g r k)) (fun r k => (xSlab_apply g _ r k).trans (iblk_3 m c t g r k)) h u

/-- The block of contexts one point leaves: the tokens of its two batch rows averaged by the weights. -/
theorem ctxAt_apply (t : Fin cfg0.N) (g : Fin 2) (h : Fin 4) (k : Fin 256) :
    ctxAt (F := Ideal) m c t (ix3 g h k)
      = ∑ u, share (inScore m c (batch (pair t) g) h) u * inX m c (batch (pair t) g) u k :=
  cRow_apply (x := inX m c (batch (pair t) g)) (layer m c t) hw
    (fun r k => (xSlab_apply g _ r k).trans (iblk_0 m c t g r k)) (fun r k => (xSlab_apply g _ r k).trans (iblk_1 m c t g r k))
    (fun r k => (xSlab_apply g _ r k).trans (iblk_2 m c t g r k)) (fun r k => (xSlab_apply g _ r k).trans (iblk_3 m c t g r k)) h k

/-- The output row of batch row `b`, in the arguments. -/
def outRow (b : Fin 64) (n : Fin 256) : EReal :=
  layerNorm (fun n => (∑ j : Fin 1024, (∑ u, share (inScore m c b ⟨j.val / 256, by omega⟩) u * inX m c b u ⟨j.val % 256, by omega⟩)
    * inWo m c n j) + inBo m c n) (inGa m c) (inBe m c) n

/-- The output row computed one point after its contexts. -/
theorem rowAt_apply (u v : Fin cfg0.N) (g : Fin 2) (n : Fin 256) :
    rowAt (F := Ideal) m c u v g (ix3 (0 : Fin 1) (0 : Fin 1) n) = outRow m c (batch (pair u) g) n := by
  refine (oRow_apply (fun h k => ∑ t, share (inScore m c (batch (pair u) g) h) t * inX m c (batch (pair u) g) t k)
    (inWo m c) (inBo m c) (fun h k => (cSlab_apply g _ h k).trans (ctxAt_apply m c hw u g h k))
    (fun h k n => by rw [iblk_7, host_wo]) (fun n => by rw [iblk_8, host_bo]) n).trans ?_
  rw [outRow]
  congr 1
  · exact funext fun n => by rw [iblk_9, host_ga]
  · exact funext fun n => by rw [iblk_10, host_be]

end Cert.KernelIdeal.Body
-- ==== Proof.Value.Arrays.lean ====
module

public import proofs.«01_k».proof.Proof.KernelIdeal.Run
public import proofs.«01_k».proof.Proof.Value.Points
public import Idealize.ShloMosaic.Lib.Pipeline.ArrRel

/-!
What the two result arrays hold after the run, in the argument arrays.
-/

@[expose] public section

noncomputable section

open Idealize.ShloMosaic Idealize.ShloMosaic.TcCoe Idealize.SL.Sem

namespace Cert.KernelIdeal.Body

open Cert.KernelIdeal Cert.KernelIdeal.Gen Pooling

variable (m : (ℓ : Loc nD τ sig) → Buf (Elt Ideal) ℓ) (c : Dev nD) (hw : ∀ h d, IsReal (inV m c h d))

/-- The softmax weights of every batch row. -/
def allWeights : S64x4x4096.Idx → EReal := fun i => share (inScore m c (i 0) (i 1)) (i 2)

/-- The output rows of every batch row. -/
def allRows : S64x1x256.Idx → EReal := fun i => outRow m c (i 0) (i 2)

/-- Where a block of weights lies in the array of weights. -/
theorem w_place (t : Fin cfg0.N) (y : S2x4x4096.Idx) :
    (((cfg0.win 12).blk t).view.emb y : S64x4x4096.Idx) = ix3 (batch (pair t) (y 0)) (y 1) (y 2) := by
  refine funext fun a => Fin.ext ?_
  have e := index_12 t
  match a with
  | ⟨0, _⟩ => show win0_12.index t 0 * 2 + 1 * (y 0).val = 2 * min t.val 31 + (y 0).val; rw [e 0]; simp; omega
  | ⟨1, _⟩ => show win0_12.index t 1 * 4 + 1 * (y 1).val = (y 1).val; rw [e 1]; simp
  | ⟨2, _⟩ => show win0_12.index t 2 * 4096 + 1 * (y 2).val = (y 2).val; rw [e 2]; simp

include hw

/-- A block of weights is a block of the array of weights. -/
theorem wAt_eq (t : Fin cfg0.N) (y : S2x4x4096.Idx) :
    wAt (F := Ideal) m c t y = allWeights m c (ix3 (batch (pair t) (y 0)) (y 1) (y 2)) := by
  have hy : y = ix3 (y 0) (y 1) (y 2) := funext fun a => by match a with | ⟨0, _⟩ => rfl | ⟨1, _⟩ => rfl | ⟨2, _⟩ => rfl
  exact (congrArg (wAt (F := Ideal) m c t) hy).trans (wAt_apply m c hw t (y 0) (y 1) (y 2))

/-- The array of weights after every write-back. -/
theorem weights_eq : (dats (F := Ideal) m c).arrAt 12 cfg0.N = allWeights m c :=
  (dats (F := Ideal) m c).arrAt_eq_of_covers 12 _ (by decide +kernel) fun t _ y =>
    (wAt_eq m c hw t y).trans (congrArg (allWeights m c) (w_place t y)).symm

/-- What the array of weights may hold after the run. -/
theorem weights_of_run (G : Buf (Elt Ideal) ((c : Thread nD τ).loc main_v21_1)) (h : (rdat (F := Ideal) m c).ArrAt 12 cfg0.N G) :
    G = allWeights m c :=
  ((((dats (F := Ideal) m c).toR.override_arrAt (w := 12) (by rfl) cfg0.N G).trans ((dats m c).toR_arrAt_iff 12 cfg0.N G)).1 h).trans
    (weights_eq m c hw)

/-- What the array of output rows may hold after the run: at the last point every row is done. -/
theorem rows_of_run (G : Buf (Elt Ideal) ((c : Thread nD τ).loc main_v21_0)) (h : (rdat (F := Ideal) m c).ArrAt 11 cfg0.N G) :
    G = allRows m c := by
  obtain ⟨X, hX, hG⟩ := h.emb_eq_of_wholeAt (t₀ := ⟨32, by decide⟩) (by decide +kernel)
  have hR : RowsDone (F := Ideal) m c ⟨32, by decide⟩ X := (dats (F := Ideal) m c).toRRel_leaves (w := 11) rfl hX
  refine funext fun (j : S64x1x256.Idx) => ?_
  have hb : (j 0).val < 64 := (j 0).isLt
  have hN : cfg0.N = 33 := by decide
  let u : Fin cfg0.N := ⟨(j 0).val / 2, by omega⟩
  let v : Fin cfg0.N := ⟨(j 0).val / 2 + 1, by omega⟩
  let g : Fin 2 := ⟨(j 0).val % 2, by omega⟩
  have hv : v.val ≤ 32 := by show (j 0).val / 2 + 1 ≤ 32; omega
  have hj : (j 0).val = 2 * u.val + g.val := by show (j 0).val = 2 * ((j 0).val / 2) + (j 0).val % 2; omega
  have hp : batch (pair u) g = j 0 := Fin.ext (by
    show 2 * min ((j 0).val / 2) 31 + (j 0).val % 2 = (j 0).val; omega)
  refine (hG j).trans ((hR u v rfl hv g j hj).trans ?_)
  have h1 : (show Fin 1 from j 1) = 0 := Subsingleton.elim _ _
  refine (congrArg (fun i : Fin 1 => rowAt (F := Ideal) m c u v g (ix3 (0 : Fin 1) i (j 2))) h1).trans ?_
  exact (rowAt_apply m c hw u v g (j 2)).trans (by rw [hp]; rfl)

end Cert.KernelIdeal.Body
-- ==== Proof.Value.Reference.lean ====
module

public import proofs.«01_k».proof.Proof.Gen.ReferenceIdeal.Run
public import proofs.«01_k».proof.Proof.Value.Formulas

/-!
What the reference computes, at one index: its term cut at the scores, the weights, the projection and the layer norm.
-/

@[expose] public section

noncomputable section

open Idealize.ShloMosaic Idealize.ShloMosaic.TcCoe Idealize.SL.Sem

namespace Cert.ReferenceIdeal.Cut

open Cert.ReferenceIdeal Cert.ReferenceIdeal.Gen Pooling

/-- The reference's scores. -/
def scores (x : FVec Ideal S64x4096x256 .f32) (W1 : FVec Ideal S4x256x64 .f32) (b1 w2 : FVec Ideal S4x64 .f32) : FVec Ideal S64x4x4096 .f32 :=
  transpose S64x4x4096 [1, 0, 2]
    (Host.dotGeneral dot_S4x64_S64x4x4096x64_S4x64x4096_1_3_n_02_0_1 none w2
      (Host.tanh
        (addf
          (transpose S64x4x4096x64 [2, 0, 3, 1] (Host.dotGeneral dot_S4x256x64_S64x4096x256_S4x64x64x4096_1_2_02_01_n_n none W1 x)
            transposes_S4x64x64x4096_S64x4x4096x64_2_0_3_1)
          (broadcastInDim S64x4x4096x64 ![0, 1, 2, 3] bcast_S1x4x1x64_S64x4x4096x64_0_1_2_3
            (broadcastInDim S1x4x1x64 ![1, 3] bcast_S4x64_S1x4x1x64_1_3 b1)))))
    transposes_S4x64x4096_S64x4x4096_1_0_2

/-- The exponentials of the scores less the largest of their row. -/
def powers (s : FVec Ideal S64x4x4096 .f32) : FVec Ideal S64x4x4096 .f32 :=
  Host.exp (subf s (broadcastInDim S64x4x4096 ![0, 1, 2] bcast_S64x4x1_S64x4x4096_0_1_2
    (broadcastInDim S64x4x1 ![0, 1] bcast_S64x4_S64x4x1_0_1
      (maximumf (broadcastInDim S64x4 ![] bcast_S_S64x4 (constant S_ .f32 0xFF800000#32))
        (Host.reduce FloatOps.maximumf s (constant S_ .f32 0xFF800000#32) reducesTo_S64x4x4096_S64x4_d2 h_S_)))))

/-- The softmax of the scores. -/
def weights (s : FVec Ideal S64x4x4096 .f32) : FVec Ideal S64x4x4096 .f32 :=
  Host.divf (powers s) (broadcastInDim S64x4x4096 ![0, 1, 2] bcast_S64x4x1_S64x4x4096_0_1_2
    (broadcastInDim S64x4x1 ![0, 1] bcast_S64x4_S64x4x1_0_1
      (Host.reduceAdd (powers s) (constant S_ .f32 0x00000000#32) reducesTo_S64x4x4096_S64x4_d2 h_S_)))

/-- The projection of the pooled heads. -/
def projected (p : FVec Ideal S64x4x4096 .f32) (x : FVec Ideal S64x4096x256 .f32) (Wo : FVec Ideal S256x1024 .f32)
    (bo : FVec Ideal S256 .f32) : FVec Ideal S64x256 .f32 :=
  addf
    (Host.dotGeneral dot_S64x1024_S1024x256_S64x256_1_0_0_1_n_n none
      (shapeCast _ (Host.dotGeneral dot_S64x4x4096_S64x4096x256_S64x4x256_2_1_1_2_0_0 none p x) shapeCasts_S64x4x256_S64x1024)
      (transpose S1024x256 [1, 0] Wo transposes_S256x1024_S1024x256_1_0))
    (broadcastInDim S64x256 ![0, 1] bcast_S1x256_S64x256_0_1 (broadcastInDim S1x256 ![1] bcast_S256_S1x256_1 bo))

/-- Each row's mean, one column wide. -/
def means (y : FVec Ideal S64x256 .f32) : FVec Ideal S64x1 .f32 :=
  Host.divf
    (broadcastInDim S64x1 ![0] bcast_S64_S64x1_0
      (Host.reduceAdd y (constant S_ .f32 0x00000000#32) reducesTo_S64x256_S64_d1 h_S_))
    (broadcastInDim S64x1 ![] bcast_S_S64x1 (constant S_ .f32 0x43800000#32))

/-- Each row less its mean. -/
def centred (y : FVec Ideal S64x256 .f32) : FVec Ideal S64x256 .f32 :=
  subf y (broadcastInDim S64x256 ![0, 1] bcast_S64x1_S64x256_0_1 (means y))

/-- The layer norm of each row. -/
def normed (y : FVec Ideal S64x256 .f32) (ga be : FVec Ideal S256 .f32) : FVec Ideal S64x1x256 .f32 :=
  shapeCast _
    (addf
      (mulf
        (mulf (centred y)
          (broadcastInDim S64x256 ![0, 1] bcast_S64x1_S64x256_0_1
            (Host.rsqrt (addf (means (mulf (centred y) (centred y)))
              (broadcastInDim S64x1 ![] bcast_S_S64x1 (constant S_ .f32 0x3727C5AC#32))))))
        (broadcastInDim S64x256 ![0, 1] bcast_S1x256_S64x256_0_1 (broadcastInDim S1x256 ![1] bcast_S256_S1x256_1 ga)))
      (broadcastInDim S64x256 ![0, 1] bcast_S1x256_S64x256_0_1 (broadcastInDim S1x256 ![1] bcast_S256_S1x256_1 be)))
    shapeCasts_S64x256_S64x1x256

theorem ofBits_negInf : Ideal.ofBits .f32 0xFF800000#32 = ⊥ := by
  simp [Ideal.ofBits, Ideal.ieee]

theorem scores_apply (x : FVec Ideal S64x4096x256 .f32) (W1 : FVec Ideal S4x256x64 .f32) (b1 w2 : FVec Ideal S4x64 .f32)
    (b : Fin 64) (h : Fin 4) (t : Fin 4096) :
    scores x W1 b1 w2 (ix3 b h t)
      = score (fun k d => W1 (ix3 h k d)) (fun d => b1 (ix2 h d)) (fun d => w2 (ix2 h d)) fun k => x (ix3 b t k) := by
  pointwise [scores, score]

theorem powers_apply (s : FVec Ideal S64x4x4096 .f32) (b : Fin 64) (h : Fin 4) (t : Fin 4096) :
    powers s (ix3 b h t) = Ideal.exp (s (ix3 b h t) - top fun t => s (ix3 b h t)) := by
  pointwise [powers, top]
  rw [ofBits_negInf]

theorem weights_apply (s : FVec Ideal S64x4x4096 .f32) (b : Fin 64) (h : Fin 4) (t : Fin 4096) :
    weights s (ix3 b h t) = share (fun t => s (ix3 b h t)) t := by
  pointwise [weights, share, powers_apply]

theorem projected_apply (p : FVec Ideal S64x4x4096 .f32) (x : FVec Ideal S64x4096x256 .f32) (Wo : FVec Ideal S256x1024 .f32)
    (bo : FVec Ideal S256 .f32) (b : Fin 64) (n : Fin 256) :
    projected p x Wo bo (ix2 b n)
      = (∑ j : Fin 1024, (∑ t : Fin 4096, p (ix3 b (⟨j.val / 256, by omega⟩ : Fin 4) t) * x (ix3 b t (⟨j.val % 256, by omega⟩ : Fin 256)))
          * Wo (ix2 n j)) + bo (ix1 n) := by
  pointwise [projected]

theorem means_apply (y : FVec Ideal S64x256 .f32) (b : Fin 64) :
    means y (ix2 b (0 : Fin 1)) = mean fun n => y (ix2 b n) := by
  pointwise [means, mean]

theorem centred_apply (y : FVec Ideal S64x256 .f32) (b : Fin 64) (n : Fin 256) :
    centred y (ix2 b n) = centre (fun n => y (ix2 b n)) n := by
  pointwise [centred, centre]
  rw [means_apply]

theorem normed_apply (y : FVec Ideal S64x256 .f32) (ga be : FVec Ideal S256 .f32) (b : Fin 64) (n : Fin 256) :
    normed y ga be (ix3 b (0 : Fin 1) n)
      = layerNorm (fun n => y (ix2 b n)) (fun n => ga (ix1 n)) (fun n => be (ix1 n)) n := by
  pointwise [normed, layerNorm]
  rw [centred_apply, means_apply,
    show (fun n => mulf (centred y) (centred y) (ix2 b n)) = fun k => centre (fun n => y (ix2 b n)) k * centre (fun n => y (ix2 b n)) k from
      funext fun k => (show _ = centred y (ix2 b k) * centred y (ix2 b k) from rfl).trans (by rw [centred_apply])]

/-- The reference's run, its two results cut at the scores, the weights, the projection and the layer norm. -/
theorem run_cut (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50)
          = normed
              (projected
                (weights (scores (m ((c.tc : Thread nD τ).loc main_arg0)) (m ((c.tc : Thread nD τ).loc main_arg1))
                  (m ((c.tc : Thread nD τ).loc main_arg2)) (m ((c.tc : Thread nD τ).loc main_arg3))))
                (m ((c.tc : Thread nD τ).loc main_arg0)) (m ((c.tc : Thread nD τ).loc main_arg4)) (m ((c.tc : Thread nD τ).loc main_arg5)))
              (m ((c.tc : Thread nD τ).loc main_arg6)) (m ((c.tc : Thread nD τ).loc main_arg7))
      ∧ r.2.mem ((c.tc : Thread nD τ).loc main_v18)
          = weights (scores (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Value.run m ρ

end Cert.ReferenceIdeal.Cut
-- ==== Proof.Value.Equation.lean ====
module

public import proofs.«01_k».proof.Defs
public import proofs.«01_k».proof.Proof.Frames
public import proofs.«01_k».proof.Proof.Value.Arrays
public import proofs.«01_k».proof.Proof.Value.Reference

/-!
The equation of the two programs: where every entry of `w2` is a real number, both results of the kernel are
the reference's.
-/

@[expose] public section

noncomputable section

open Idealize.ShloMosaic Idealize.ShloMosaic.TcCoe Idealize.SL.Sem

namespace Cert.Pre_w2_finite

/-- The side condition of the precondition. -/
instance facts : Cert.Pre_w2_finite.Facts where
  bcast_S_S4x64 := by decide

end Cert.Pre_w2_finite

namespace Pooling

/-- A number whose absolute value compares below plus infinity is real. -/
theorem real_of_olt {x : EReal}
    (h : FloatOps.cmpf (F := Ideal) (φ := .f32) .olt (FloatOps.hostAbsf (F := Ideal) (φ := .f32) x)
      (FloatOps.ofBits (F := Ideal) .f32 0x7F800000#32) = 1#1) : IsReal x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  induction x using EReal.rec with
  | bot => simp [Ideal.cmp] at h'
  | top => simp [Ideal.cmp] at h'
  | coe r => exact ⟨r, rfl⟩

end Pooling

namespace Cert.KernelIdeal.Body

open Cert.KernelIdeal Cert.KernelIdeal.Gen Pooling

variable (m : (ℓ : Loc nD τ sig) → Buf (Elt Ideal) ℓ) (c : Dev nD)

/-- The precondition read at an entry. -/
theorem inV_real (h : Cert.Pre_KernelIdeal_w2_finite m) (i : Fin 4) (d : Fin 64) : IsReal (inV m c i d) :=
  real_of_olt (congrFun (h c) (ix2 i d))

/-- The reference's weights of the kernel's arguments. -/
def refWeights : S64x4x4096.Idx → EReal :=
  Cert.ReferenceIdeal.Cut.weights (Cert.ReferenceIdeal.Cut.scores (m ((c : Thread nD τ).loc main_arg0)) (m ((c : Thread nD τ).loc main_arg1))
    (m ((c : Thread nD τ).loc main_arg2)) (m ((c : Thread nD τ).loc main_arg3)))

/-- The reference's output rows of the kernel's arguments. -/
def refRows : S64x1x256.Idx → EReal :=
  Cert.ReferenceIdeal.Cut.normed
    (Cert.ReferenceIdeal.Cut.projected (refWeights m c) (m ((c : Thread nD τ).loc main_arg0)) (m ((c : Thread nD τ).loc main_arg4))
      (m ((c : Thread nD τ).loc main_arg5)))
    (m ((c : Thread nD τ).loc main_arg6)) (m ((c : Thread nD τ).loc main_arg7))

theorem refWeights_apply (b : Fin 64) (h : Fin 4) (t : Fin 4096) :
    refWeights m c (ix3 b h t) = share (inScore m c b h) t := by
  rw [refWeights, Cert.ReferenceIdeal.Cut.weights_apply]
  exact congrArg (share · t) (funext fun t => Cert.ReferenceIdeal.Cut.scores_apply _ _ _ _ b h t)

theorem refRows_apply (b : Fin 64) (n : Fin 256) :
    refRows m c (ix3 b (0 : Fin 1) n) = outRow m c b n := by
  rw [refRows, Cert.ReferenceIdeal.Cut.normed_apply]
  refine congrArg (layerNorm · _ _ n) (funext fun n => ?_)
  rw [Cert.ReferenceIdeal.Cut.projected_apply]
  simp only [refWeights_apply]
  rfl

theorem allWeights_eq : allWeights m c = refWeights m c := by
  refine funext fun i => ?_
  rw [eq_ix3 i]
  exact (refWeights_apply m c (i 0) (i 1) (i 2)).symm

theorem allRows_eq : allRows m c = refRows m c := by
  refine funext fun i => ?_
  have h1 : (show Fin 1 from i 1) = 0 := Subsingleton.elim _ _
  rw [eq_ix3 i]
  refine Eq.trans ?_ (congrArg (fun k : Fin 1 => refRows m c (ix3 (i 0) k (i 2))) h1).symm
  exact (refRows_apply m c (i 0) (i 2)).symm

/-- Where `w2` is finite, the kernel and the reference run on the same arguments give the same two results. -/
theorem algebraic : Cert.algebraic_KernelIdeal_ReferenceIdeal_pre_w2_finite := fun m g m' g' hpre hargs =>
  ⟨refRows m, refWeights m,
    (θ_run _ _ _).mono (fun r h c =>
      ⟨(rows_of_run m c (inV_real m c hpre) _ ((h.1 c).1 11)).trans (allRows_eq m c),
       (weights_of_run m c (inV_real m c hpre) _ ((h.1 c).1 12)).trans (allWeights_eq m c), args_eq h.1 c⟩) (run_main m g),
    (θ_run _ _ _).mono (fun r h c => by
      obtain ⟨h0, h1, ha⟩ := h c
      obtain ⟨e0, e1, e2, e3, e4, e5, e6, e7⟩ := hargs c
      refine ⟨h0.trans ?_, h1.trans ?_, ha⟩
      · rw [e0, e1, e2, e3, e4, e5, e6, e7]; rfl
      · rw [e0, e1, e2, e3]; rfl) (Cert.ReferenceIdeal.Cut.run_cut m' g')⟩

end Cert.KernelIdeal.Body
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value.Equation

@[expose] public section

noncomputable section

namespace Cert.Proof

/-- The claim. -/
theorem claim : Cert.Claim :=
  ⟨Cert.Kernel.Gen.facts, Cert.KernelIdeal.Gen.facts, Cert.ReferenceIdeal.Gen.facts, Cert.Pre_w2_finite.facts,
    Cert.Kernel.Ends.frame, Cert.KernelIdeal.Body.frame, fun m g _ => Cert.KernelIdeal.Body.frame m g trivial,
    Cert.ReferenceIdeal.frame, fun m g _ => Cert.ReferenceIdeal.frame m g trivial, trivial,
    Cert.KernelIdeal.Body.algebraic⟩

end Cert.Proof
